-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x_KernelIdeal [hPre_finite_x_KernelIdeal : Cert.Pre_finite_x_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x_ReferenceIdeal [hPre_finite_x_ReferenceIdeal : Cert.Pre_finite_x_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_x_KernelIdeal [hKernelIdeal : Cert.KernelIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_x_ReferenceIdeal [hReferenceIdeal : Cert.ReferenceIdeal.Facts] [hPre_finite_x_ReferenceIdeal : Cert.Pre_finite_x_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_x_KernelIdeal [hKernelIdeal : Cert.KernelIdeal.Facts] [hReferenceIdeal : Cert.ReferenceIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 8192]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![1024]⟩ ⟨1, ![8192]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨1, ![1024]⟩ ⟨1, ![8192]⟩ 0 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_x_KernelIdeal : Cert.Pre_finite_x_KernelIdeal.Facts) (hPre_finite_x_ReferenceIdeal : Cert.Pre_finite_x_ReferenceIdeal.Facts),
    quiescent_Kernel (hKernel := hKernel)
    ∧ quiescent_KernelIdeal (hKernelIdeal := hKernelIdeal)
    ∧ quiescent_KernelIdeal_pre_finite_x_KernelIdeal (hKernelIdeal := hKernelIdeal) (hPre_finite_x_KernelIdeal := hPre_finite_x_KernelIdeal)
    ∧ quiescent_ReferenceIdeal (hReferenceIdeal := hReferenceIdeal)
    ∧ quiescent_ReferenceIdeal_pre_finite_x_ReferenceIdeal (hReferenceIdeal := hReferenceIdeal) (hPre_finite_x_ReferenceIdeal := hPre_finite_x_ReferenceIdeal)
    ∧ preserves_Kernel_KernelIdeal
    ∧ algebraic_KernelIdeal_ReferenceIdeal_pre_finite_x_KernelIdeal (hKernelIdeal := hKernelIdeal) (hReferenceIdeal := hReferenceIdeal) (hPre_finite_x_KernelIdeal := hPre_finite_x_KernelIdeal)
-- ==== Pre_finite_x_KernelIdeal.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)

variable [Facts]

def fn {F : FTy → Type} [FloatOps F] (main_arg0 : FVec F S4096x1024 .f32) (main_arg1 : FVec F S1024 .f32) (main_arg2 : FVec F S1024 .f32) : IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  main_v2
-- ==== Pre_finite_x_ReferenceIdeal.lean ====
abbrev S4096x8192 : Shape := ⟨2, ![4096, 8192]⟩
abbrev S8192 : Shape := ⟨1, ![8192]⟩
abbrev S_ : Shape := ⟨0, ![]⟩

class Facts : Prop where
  bcast_S_S4096x8192 : S_.BroadcastsInDim S4096x8192 (![] : Fin 0 → Fin S4096x8192.rank)

variable [Facts]

def fn {F : FTy → Type} [FloatOps F] (main_arg0 : FVec F S4096x8192 .f32) (main_arg1 : FVec F S8192 .f32) (main_arg2 : FVec F S8192 .f32) : IVec S4096x8192 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  main_v2
-- ==== Kernel.lean ====
abbrev S4096x1024 : Shape := ⟨2, ![4096, 1024]⟩
abbrev S1024 : Shape := ⟨1, ![1024]⟩
abbrev S2x1024x1024 : Shape := ⟨3, ![2, 1024, 1024]⟩
abbrev S8x4x2x8x128 : Shape := ⟨5, ![8, 4, 2, 8, 128]⟩
abbrev S4 : Shape := ⟨1, ![4]⟩
abbrev S2 : Shape := ⟨1, ![2]⟩
abbrev S4x7 : Shape := ⟨2, ![4, 7]⟩
abbrev S8x4 : Shape := ⟨2, ![8, 4]⟩
abbrev S1 : Shape := ⟨1, ![1]⟩
abbrev S_ : Shape := ⟨0, ![]⟩
abbrev S1024x1024 : Shape := ⟨2, ![1024, 1024]⟩
abbrev S8x128 : Shape := ⟨2, ![8, 128]⟩
abbrev S1x1x1x8x128 : Shape := ⟨5, ![1, 1, 1, 8, 128]⟩
abbrev S1x1 : Shape := ⟨2, ![1, 1]⟩
abbrev S1x1x2x8x128 : Shape := ⟨5, ![1, 1, 2, 8, 128]⟩
abbrev S2x8x128 : Shape := ⟨3, ![2, 8, 128]⟩
abbrev S1024x8 : Shape := ⟨2, ![1024, 8]⟩
abbrev S1024x128 : Shape := ⟨2, ![1024, 128]⟩
abbrev S1x1024 : Shape := ⟨2, ![1, 1024]⟩
abbrev S8x1x2x8x128 : Shape := ⟨5, ![8, 1, 2, 8, 128]⟩
abbrev S8x2x8x128 : Shape := ⟨4, ![8, 2, 8, 128]⟩
abbrev S1x8x128 : Shape := ⟨3, ![1, 8, 128]⟩
abbrev S1024x1 : Shape := ⟨2, ![1024, 1]⟩
abbrev S1x1024x1024 : Shape := ⟨3, ![1, 1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S4096x1024, .bf16⟩
  | .local _ .vmem, ⟨0, _⟩ => ⟨S1024, .f32⟩
  | .local _ .vmem, ⟨1, _⟩ => ⟨S1024, .f32⟩
  | .local _ .vmem, ⟨2, _⟩ => ⟨S4096x1024, .f32⟩
  | .local _ .vmem, ⟨3, _⟩ => ⟨S2x1024x1024, .bf16⟩
  | .local _ .vmem, ⟨4, _⟩ => ⟨S8x4x2x8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_14 : BitVec 32 := 1#32
  let v20 : BitVec 32 := Scalar.addi v2 c1_i32_14
  let c8_i32_15 : BitVec 32 := 8#32
  let c0_i32_16 : BitVec 32 := 0#32
  let v21 : BitVec 1 := Scalar.cmpi .eq c8_i32_15 c0_i32_16
  let c1_i32_17 : BitVec 32 := 1#32
  let v22 : BitVec 32 := Scalar.select v21 c1_i32_17 c8_i32_15
  let v23 : BitVec 32 := Scalar.remsi v20 v22
  let c0_i32_19 : BitVec 32 := 0#32
  let v25 : BitVec 1 := Scalar.cmpi .slt v23 c0_i32_19
  let c0_i32_20 : BitVec 32 := 0#32
  let v26 : BitVec 1 := Scalar.cmpi .slt v22 c0_i32_20
  let v27 : BitVec 1 := Scalar.xori v25 v26
  let c0_i32_18 : BitVec 32 := 0#32
  let v24 : BitVec 1 := Scalar.cmpi .ne v23 c0_i32_18
  let v28 : BitVec 1 := Scalar.andi v27 v24
  let v29 : BitVec 32 := Scalar.addi v23 v22
  let v30 : BitVec 32 := Scalar.select v28 v29 v23
  let c1_i32_22 : BitVec 32 := 1#32
  let v31 : BitVec 32 := Scalar.muli v30 c1_i32_22
  let v32 : BitVec 32 := Scalar.addi c0_i32_23 v31
  v32.toNat
def k0_dev2 (d0 : Dev nD) : Nat :=
  let c0_i32_33 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_24 : BitVec 32 := 2#32
  let v33 : BitVec 32 := Scalar.addi v2 c2_i32_24
  let c8_i32_25 : BitVec 32 := 8#32
  let c0_i32_26 : BitVec 32 := 0#32
  let v34 : BitVec 1 := Scalar.cmpi .eq c8_i32_25 c0_i32_26
  let c1_i32_27 : BitVec 32 := 1#32
  let v35 : BitVec 32 := Scalar.select v34 c1_i32_27 c8_i32_25
  let v36 : BitVec 32 := Scalar.remsi v33 v35
  let c0_i32_29 : BitVec 32 := 0#32
  let v38 : BitVec 1 := Scalar.cmpi .slt v36 c0_i32_29
  let c0_i32_30 : BitVec 32 := 0#32
  let v39 : BitVec 1 := Scalar.cmpi .slt v35 c0_i32_30
  let v40 : BitVec 1 := Scalar.xori v38 v39
  let c0_i32_28 : BitVec 32 := 0#32
  let v37 : BitVec 1 := Scalar.cmpi .ne v36 c0_i32_28
  let v41 : BitVec 1 := Scalar.andi v40 v37
  let v42 : BitVec 32 := Scalar.addi v36 v35
  let v43 : BitVec 32 := Scalar.select v41 v42 v36
  let c1_i32_32 : BitVec 32 := 1#32
  let v44 : BitVec 32 := Scalar.muli v43 c1_i32_32
  let v45 : BitVec 32 := Scalar.addi c0_i32_33 v44
  v45.toNat
def k0_dev3 (d0 : Dev nD) : Nat :=
  let c0_i32_43 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_34 : BitVec 32 := 3#32
  let v46 : BitVec 32 := Scalar.addi v2 c3_i32_34
  let c8_i32_35 : BitVec 32 := 8#32
  let c0_i32_36 : BitVec 32 := 0#32
  let v47 : BitVec 1 := Scalar.cmpi .eq c8_i32_35 c0_i32_36
  let c1_i32_37 : BitVec 32 := 1#32
  let v48 : BitVec 32 := Scalar.select v47 c1_i32_37 c8_i32_35
  let v49 : BitVec 32 := Scalar.remsi v46 v48
  let c0_i32_39 : BitVec 32 := 0#32
  let v51 : BitVec 1 := Scalar.cmpi .slt v49 c0_i32_39
  let c0_i32_40 : BitVec 32 := 0#32
  let v52 : BitVec 1 := Scalar.cmpi .slt v48 c0_i32_40
  let v53 : BitVec 1 := Scalar.xori v51 v52
  let c0_i32_38 : BitVec 32 := 0#32
  let v50 : BitVec 1 := Scalar.cmpi .ne v49 c0_i32_38
  let v54 : BitVec 1 := Scalar.andi v53 v50
  let v55 : BitVec 32 := Scalar.addi v49 v48
  let v56 : BitVec 32 := Scalar.select v54 v55 v49
  let c1_i32_42 : BitVec 32 := 1#32
  let v57 : BitVec 32 := Scalar.muli v56 c1_i32_42
  let v58 : BitVec 32 := Scalar.addi c0_i32_43 v57
  v58.toNat
def k0_dev4 (d0 : Dev nD) : Nat :=
  let c0_i32_52 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v59 : BitVec 32 := Scalar.addi v2 c4_i32
  let c8_i32_44 : BitVec 32 := 8#32
  let c0_i32_45 : BitVec 32 := 0#32
  let v60 : BitVec 1 := Scalar.cmpi .eq c8_i32_44 c0_i32_45
  let c1_i32_46 : BitVec 32 := 1#32
  let v61 : BitVec 32 := Scalar.select v60 c1_i32_46 c8_i32_44
  let v62 : BitVec 32 := Scalar.remsi v59 v61
  let c0_i32_48 : BitVec 32 := 0#32
  let v64 : BitVec 1 := Scalar.cmpi .slt v62 c0_i32_48
  let c0_i32_49 : BitVec 32 := 0#32
  let v65 : BitVec 1 := Scalar.cmpi .slt v61 c0_i32_49
  let v66 : BitVec 1 := Scalar.xori v64 v65
  let c0_i32_47 : BitVec 32 := 0#32
  let v63 : BitVec 1 := Scalar.cmpi .ne v62 c0_i32_47
  let v67 : BitVec 1 := Scalar.andi v66 v63
  let v68 : BitVec 32 := Scalar.addi v62 v61
  let v69 : BitVec 32 := Scalar.select v67 v68 v62
  let c1_i32_51 : BitVec 32 := 1#32
  let v70 : BitVec 32 := Scalar.muli v69 c1_i32_51
  let v71 : BitVec 32 := Scalar.addi c0_i32_52 v70
  v71.toNat
def k0_dev5 (d0 : Dev nD) : Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v72 : BitVec 32 := Scalar.addi v2 c5_i32
  let c8_i32_53 : BitVec 32 := 8#32
  let c0_i32_54 : BitVec 32 := 0#32
  let v73 : BitVec 1 := Scalar.cmpi .eq c8_i32_53 c0_i32_54
  let c1_i32_55 : BitVec 32 := 1#32
  let v74 : BitVec 32 := Scalar.select v73 c1_i32_55 c8_i32_53
  let v75 : BitVec 32 := Scalar.remsi v72 v74
  let c0_i32_57 : BitVec 32 := 0#32
  let v77 : BitVec 1 := Scalar.cmpi .slt v75 c0_i32_57
  let c0_i32_58 : BitVec 32 := 0#32
  let v78 : BitVec 1 := Scalar.cmpi .slt v74 c0_i32_58
  let v79 : BitVec 1 := Scalar.xori v77 v78
  let c0_i32_56 : BitVec 32 := 0#32
  let v76 : BitVec 1 := Scalar.cmpi .ne v75 c0_i32_56
  let v80 : BitVec 1 := Scalar.andi v79 v76
  let v81 : BitVec 32 := Scalar.addi v75 v74
  let v82 : BitVec 32 := Scalar.select v80 v81 v75
  let c1_i32_60 : BitVec 32 := 1#32
  let v83 : BitVec 32 := Scalar.muli v82 c1_i32_60
  let v84 : BitVec 32 := Scalar.addi c0_i32_61 v83
  v84.toNat
def k0_dev6 (d0 : Dev nD) : Nat :=
  let c0_i32_70 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v85 : BitVec 32 := Scalar.addi v2 c6_i32
  let c8_i32_62 : BitVec 32 := 8#32
  let c0_i32_63 : BitVec 32 := 0#32
  let v86 : BitVec 1 := Scalar.cmpi .eq c8_i32_62 c0_i32_63
  let c1_i32_64 : BitVec 32 := 1#32
  let v87 : BitVec 32 := Scalar.select v86 c1_i32_64 c8_i32_62
  let v88 : BitVec 32 := Scalar.remsi v85 v87
  let c0_i32_66 : BitVec 32 := 0#32
  let v90 : BitVec 1 := Scalar.cmpi .slt v88 c0_i32_66
  let c0_i32_67 : BitVec 32 := 0#32
  let v91 : BitVec 1 := Scalar.cmpi .slt v87 c0_i32_67
  let v92 : BitVec 1 := Scalar.xori v90 v91
  let c0_i32_65 : BitVec 32 := 0#32
  let v89 : BitVec 1 := Scalar.cmpi .ne v88 c0_i32_65
  let v93 : BitVec 1 := Scalar.andi v92 v89
  let v94 : BitVec 32 := Scalar.addi v88 v87
  let v95 : BitVec 32 := Scalar.select v93 v94 v88
  let c1_i32_69 : BitVec 32 := 1#32
  let v96 : BitVec 32 := Scalar.muli v95 c1_i32_69
  let v97 : BitVec 32 := Scalar.addi c0_i32_70 v96
  v97.toNat
def k0_dev7 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v98 : BitVec 32 := Scalar.addi v2 c7_i32
  let c8_i32_71 : BitVec 32 := 8#32
  let c0_i32_72 : BitVec 32 := 0#32
  let v99 : BitVec 1 := Scalar.cmpi .eq c8_i32_71 c0_i32_72
  let c1_i32_73 : BitVec 32 := 1#32
  let v100 : BitVec 32 := Scalar.select v99 c1_i32_73 c8_i32_71
  let v101 : BitVec 32 := Scalar.remsi v98 v100
  let c0_i32_75 : BitVec 32 := 0#32
  let v103 : BitVec 1 := Scalar.cmpi .slt v101 c0_i32_75
  let c0_i32_76 : BitVec 32 := 0#32
  let v104 : BitVec 1 := Scalar.cmpi .slt v100 c0_i32_76
  let v105 : BitVec 1 := Scalar.xori v103 v104
  let c0_i32_74 : BitVec 32 := 0#32
  let v102 : BitVec 1 := Scalar.cmpi .ne v101 c0_i32_74
  let v106 : BitVec 1 := Scalar.andi v105 v102
  let v107 : BitVec 32 := Scalar.addi v101 v100
  let v108 : BitVec 32 := Scalar.select v106 v107 v101
  let c1_i32_78 : BitVec 32 := 1#32
  let v109 : BitVec 32 := Scalar.muli v108 c1_i32_78
  let v110 : BitVec 32 := Scalar.addi c0_i32_79 v109
  v110.toNat
def k0_off1 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v120 : Index := Scalar.indexCast v2
  let c0_88 : Index := 0#32
  let c0_89 : Index := 0#32
  let c0_90 : Index := 0#32
  let c0_91 : Index := 0#32
  ![v120.toNat, 0, 0, 0, 0]
def k0_off2 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v125 : Index := Scalar.indexCast v2
  let c0_92 : Index := 0#32
  let c1 : Index := 1#32
  let c0_93 : Index := 0#32
  let c0_94 : Index := 0#32
  ![v125.toNat, 0, 1, 0, 0]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_104 : BitVec 32 := 0#32
  ![v2.toNat, 0]
def k0_off4 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_103 : BitVec 32 := 0#32
  let c0_i32_109 : BitVec 32 := 0#32
  let c0_i32_110 : BitVec 32 := 0#32
  let c0_i32_111 : BitVec 32 := 0#32
  ![v2.toNat, 0, 0, 0, 0]
def k0_dev8 (d0 : Dev nD) : Nat :=
  let c0_i32_108 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_95 : BitVec 32 := 1#32
  let v129 : BitVec 32 := Scalar.addi v2 c1_i32_95
  let c8_i32_96 : BitVec 32 := 8#32
  let c0_i32_97 : BitVec 32 := 0#32
  let v130 : BitVec 1 := Scalar.cmpi .eq c8_i32_96 c0_i32_97
  let c1_i32_98 : BitVec 32 := 1#32
  let v131 : BitVec 32 := Scalar.select v130 c1_i32_98 c8_i32_96
  let v132 : BitVec 32 := Scalar.remsi v129 v131
  let c0_i32_100 : BitVec 32 := 0#32
  let v134 : BitVec 1 := Scalar.cmpi .slt v132 c0_i32_100
  let c0_i32_101 : BitVec 32 := 0#32
  let v135 : BitVec 1 := Scalar.cmpi .slt v131 c0_i32_101
  let v136 : BitVec 1 := Scalar.xori v134 v135
  let c0_i32_99 : BitVec 32 := 0#32
  let v133 : BitVec 1 := Scalar.cmpi .ne v132 c0_i32_99
  let v137 : BitVec 1 := Scalar.andi v136 v133
  let v138 : BitVec 32 := Scalar.addi v132 v131
  let v139 : BitVec 32 := Scalar.select v137 v138 v132
  let c1_i32_107 : BitVec 32 := 1#32
  let v140 : BitVec 32 := Scalar.muli v139 c1_i32_107
  let v141 : BitVec 32 := Scalar.addi c0_i32_108 v140
  v141.toNat
def k0_dev9 (d0 : Dev nD) : Nat :=
  let c0_i32_128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_115 : BitVec 32 := 2#32
  let v150 : BitVec 32 := Scalar.addi v2 c2_i32_115
  let c8_i32_116 : BitVec 32 := 8#32
  let c0_i32_117 : BitVec 32 := 0#32
  let v151 : BitVec 1 := Scalar.cmpi .eq c8_i32_116 c0_i32_117
  let c1_i32_118 : BitVec 32 := 1#32
  let v152 : BitVec 32 := Scalar.select v151 c1_i32_118 c8_i32_116
  let v153 : BitVec 32 := Scalar.remsi v150 v152
  let c0_i32_120 : BitVec 32 := 0#32
  let v155 : BitVec 1 := Scalar.cmpi .slt v153 c0_i32_120
  let c0_i32_121 : BitVec 32 := 0#32
  let v156 : BitVec 1 := Scalar.cmpi .slt v152 c0_i32_121
  let v157 : BitVec 1 := Scalar.xori v155 v156
  let c0_i32_119 : BitVec 32 := 0#32
  let v154 : BitVec 1 := Scalar.cmpi .ne v153 c0_i32_119
  let v158 : BitVec 1 := Scalar.andi v157 v154
  let v159 : BitVec 32 := Scalar.addi v153 v152
  let v160 : BitVec 32 := Scalar.select v158 v159 v153
  let c1_i32_127 : BitVec 32 := 1#32
  let v161 : BitVec 32 := Scalar.muli v160 c1_i32_127
  let v162 : BitVec 32 := Scalar.addi c0_i32_128 v161
  v162.toNat
def k0_dev10 (d0 : Dev nD) : Nat :=
  let c0_i32_148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_135 : BitVec 32 := 3#32
  let v171 : BitVec 32 := Scalar.addi v2 c3_i32_135
  let c8_i32_136 : BitVec 32 := 8#32
  let c0_i32_137 : BitVec 32 := 0#32
  let v172 : BitVec 1 := Scalar.cmpi .eq c8_i32_136 c0_i32_137
  let c1_i32_138 : BitVec 32 := 1#32
  let v173 : BitVec 32 := Scalar.select v172 c1_i32_138 c8_i32_136
  let v174 : BitVec 32 := Scalar.remsi v171 v173
  let c0_i32_140 : BitVec 32 := 0#32
  let v176 : BitVec 1 := Scalar.cmpi .slt v174 c0_i32_140
  let c0_i32_141 : BitVec 32 := 0#32
  let v177 : BitVec 1 := Scalar.cmpi .slt v173 c0_i32_141
  let v178 : BitVec 1 := Scalar.xori v176 v177
  let c0_i32_139 : BitVec 32 := 0#32
  let v175 : BitVec 1 := Scalar.cmpi .ne v174 c0_i32_139
  let v179 : BitVec 1 := Scalar.andi v178 v175
  let v180 : BitVec 32 := Scalar.addi v174 v173
  let v181 : BitVec 32 := Scalar.select v179 v180 v174
  let c1_i32_147 : BitVec 32 := 1#32
  let v182 : BitVec 32 := Scalar.muli v181 c1_i32_147
  let v183 : BitVec 32 := Scalar.addi c0_i32_148 v182
  v183.toNat
def k0_dev11 (d0 : Dev nD) : Nat :=
  let c0_i32_168 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_155 : BitVec 32 := 4#32
  let v192 : BitVec 32 := Scalar.addi v2 c4_i32_155
  let c8_i32_156 : BitVec 32 := 8#32
  let c0_i32_157 : BitVec 32 := 0#32
  let v193 : BitVec 1 := Scalar.cmpi .eq c8_i32_156 c0_i32_157
  let c1_i32_158 : BitVec 32 := 1#32
  let v194 : BitVec 32 := Scalar.select v193 c1_i32_158 c8_i32_156
  let v195 : BitVec 32 := Scalar.remsi v192 v194
  let c0_i32_160 : BitVec 32 := 0#32
  let v197 : BitVec 1 := Scalar.cmpi .slt v195 c0_i32_160
  let c0_i32_161 : BitVec 32 := 0#32
  let v198 : BitVec 1 := Scalar.cmpi .slt v194 c0_i32_161
  let v199 : BitVec 1 := Scalar.xori v197 v198
  let c0_i32_159 : BitVec 32 := 0#32
  let v196 : BitVec 1 := Scalar.cmpi .ne v195 c0_i32_159
  let v200 : BitVec 1 := Scalar.andi v199 v196
  let v201 : BitVec 32 := Scalar.addi v195 v194
  let v202 : BitVec 32 := Scalar.select v200 v201 v195
  let c1_i32_167 : BitVec 32 := 1#32
  let v203 : BitVec 32 := Scalar.muli v202 c1_i32_167
  let v204 : BitVec 32 := Scalar.addi c0_i32_168 v203
  v204.toNat
def k0_dev12 (d0 : Dev nD) : Nat :=
  let c0_i32_188 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_175 : BitVec 32 := 5#32
  let v213 : BitVec 32 := Scalar.addi v2 c5_i32_175
  let c8_i32_176 : BitVec 32 := 8#32
  let c0_i32_177 : BitVec 32 := 0#32
  let v214 : BitVec 1 := Scalar.cmpi .eq c8_i32_176 c0_i32_177
  let c1_i32_178 : BitVec 32 := 1#32
  let v215 : BitVec 32 := Scalar.select v214 c1_i32_178 c8_i32_176
  let v216 : BitVec 32 := Scalar.remsi v213 v215
  let c0_i32_180 : BitVec 32 := 0#32
  let v218 : BitVec 1 := Scalar.cmpi .slt v216 c0_i32_180
  let c0_i32_181 : BitVec 32 := 0#32
  let v219 : BitVec 1 := Scalar.cmpi .slt v215 c0_i32_181
  let v220 : BitVec 1 := Scalar.xori v218 v219
  let c0_i32_179 : BitVec 32 := 0#32
  let v217 : BitVec 1 := Scalar.cmpi .ne v216 c0_i32_179
  let v221 : BitVec 1 := Scalar.andi v220 v217
  let v222 : BitVec 32 := Scalar.addi v216 v215
  let v223 : BitVec 32 := Scalar.select v221 v222 v216
  let c1_i32_187 : BitVec 32 := 1#32
  let v224 : BitVec 32 := Scalar.muli v223 c1_i32_187
  let v225 : BitVec 32 := Scalar.addi c0_i32_188 v224
  v225.toNat
def k0_dev13 (d0 : Dev nD) : Nat :=
  let c0_i32_208 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_195 : BitVec 32 := 6#32
  let v234 : BitVec 32 := Scalar.addi v2 c6_i32_195
  let c8_i32_196 : BitVec 32 := 8#32
  let c0_i32_197 : BitVec 32 := 0#32
  let v235 : BitVec 1 := Scalar.cmpi .eq c8_i32_196 c0_i32_197
  let c1_i32_198 : BitVec 32 := 1#32
  let v236 : BitVec 32 := Scalar.select v235 c1_i32_198 c8_i32_196
  let v237 : BitVec 32 := Scalar.remsi v234 v236
  let c0_i32_200 : BitVec 32 := 0#32
  let v239 : BitVec 1 := Scalar.cmpi .slt v237 c0_i32_200
  let c0_i32_201 : BitVec 32 := 0#32
  let v240 : BitVec 1 := Scalar.cmpi .slt v236 c0_i32_201
  let v241 : BitVec 1 := Scalar.xori v239 v240
  let c0_i32_199 : BitVec 32 := 0#32
  let v238 : BitVec 1 := Scalar.cmpi .ne v237 c0_i32_199
  let v242 : BitVec 1 := Scalar.andi v241 v238
  let v243 : BitVec 32 := Scalar.addi v237 v236
  let v244 : BitVec 32 := Scalar.select v242 v243 v237
  let c1_i32_207 : BitVec 32 := 1#32
  let v245 : BitVec 32 := Scalar.muli v244 c1_i32_207
  let v246 : BitVec 32 := Scalar.addi c0_i32_208 v245
  v246.toNat
def k0_dev14 (d0 : Dev nD) : Nat :=
  let c0_i32_228 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_215 : BitVec 32 := 7#32
  let v255 : BitVec 32 := Scalar.addi v2 c7_i32_215
  let c8_i32_216 : BitVec 32 := 8#32
  let c0_i32_217 : BitVec 32 := 0#32
  let v256 : BitVec 1 := Scalar.cmpi .eq c8_i32_216 c0_i32_217
  let c1_i32_218 : BitVec 32 := 1#32
  let v257 : BitVec 32 := Scalar.select v256 c1_i32_218 c8_i32_216
  let v258 : BitVec 32 := Scalar.remsi v255 v257
  let c0_i32_220 : BitVec 32 := 0#32
  let v260 : BitVec 1 := Scalar.cmpi .slt v258 c0_i32_220
  let c0_i32_221 : BitVec 32 := 0#32
  let v261 : BitVec 1 := Scalar.cmpi .slt v257 c0_i32_221
  let v262 : BitVec 1 := Scalar.xori v260 v261
  let c0_i32_219 : BitVec 32 := 0#32
  let v259 : BitVec 1 := Scalar.cmpi .ne v258 c0_i32_219
  let v263 : BitVec 1 := Scalar.andi v262 v259
  let v264 : BitVec 32 := Scalar.addi v258 v257
  let v265 : BitVec 32 := Scalar.select v263 v264 v258
  let c1_i32_227 : BitVec 32 := 1#32
  let v266 : BitVec 32 := Scalar.muli v265 c1_i32_227
  let v267 : BitVec 32 := Scalar.addi c0_i32_228 v266
  v267.toNat
def k0_off5 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v285 : Index := Scalar.indexCast v2
  let c1_243 : Index := 1#32
  let c0_244 : Index := 0#32
  let c0_245 : Index := 0#32
  let c0_246 : Index := 0#32
  ![v285.toNat, 1, 0, 0, 0]
def k0_off6 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v290 : Index := Scalar.indexCast v2
  let c1_247 : Index := 1#32
  let c1_248 : Index := 1#32
  let c0_249 : Index := 0#32
  let c0_250 : Index := 0#32
  ![v290.toNat, 1, 1, 0, 0]
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_260 : BitVec 32 := 1#32
  ![v2.toNat, 1]
def k0_off8 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_259 : BitVec 32 := 1#32
  let c0_i32_265 : BitVec 32 := 0#32
  let c0_i32_266 : BitVec 32 := 0#32
  let c0_i32_267 : BitVec 32 := 0#32
  ![v2.toNat, 1, 0, 0, 0]
def k0_dev15 (d0 : Dev nD) : Nat :=
  let c0_i32_264 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_251 : BitVec 32 := 1#32
  let v294 : BitVec 32 := Scalar.addi v2 c1_i32_251
  let c8_i32_252 : BitVec 32 := 8#32
  let c0_i32_253 : BitVec 32 := 0#32
  let v295 : BitVec 1 := Scalar.cmpi .eq c8_i32_252 c0_i32_253
  let c1_i32_254 : BitVec 32 := 1#32
  let v296 : BitVec 32 := Scalar.select v295 c1_i32_254 c8_i32_252
  let v297 : BitVec 32 := Scalar.remsi v294 v296
  let c0_i32_256 : BitVec 32 := 0#32
  let v299 : BitVec 1 := Scalar.cmpi .slt v297 c0_i32_256
  let c0_i32_257 : BitVec 32 := 0#32
  let v300 : BitVec 1 := Scalar.cmpi .slt v296 c0_i32_257
  let v301 : BitVec 1 := Scalar.xori v299 v300
  let c0_i32_255 : BitVec 32 := 0#32
  let v298 : BitVec 1 := Scalar.cmpi .ne v297 c0_i32_255
  let v302 : BitVec 1 := Scalar.andi v301 v298
  let v303 : BitVec 32 := Scalar.addi v297 v296
  let v304 : BitVec 32 := Scalar.select v302 v303 v297
  let c1_i32_263 : BitVec 32 := 1#32
  let v305 : BitVec 32 := Scalar.muli v304 c1_i32_263
  let v306 : BitVec 32 := Scalar.addi c0_i32_264 v305
  v306.toNat
def k0_dev16 (d0 : Dev nD) : Nat :=
  let c0_i32_284 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_271 : BitVec 32 := 2#32
  let v315 : BitVec 32 := Scalar.addi v2 c2_i32_271
  let c8_i32_272 : BitVec 32 := 8#32
  let c0_i32_273 : BitVec 32 := 0#32
  let v316 : BitVec 1 := Scalar.cmpi .eq c8_i32_272 c0_i32_273
  let c1_i32_274 : BitVec 32 := 1#32
  let v317 : BitVec 32 := Scalar.select v316 c1_i32_274 c8_i32_272
  let v318 : BitVec 32 := Scalar.remsi v315 v317
  let c0_i32_276 : BitVec 32 := 0#32
  let v320 : BitVec 1 := Scalar.cmpi .slt v318 c0_i32_276
  let c0_i32_277 : BitVec 32 := 0#32
  let v321 : BitVec 1 := Scalar.cmpi .slt v317 c0_i32_277
  let v322 : BitVec 1 := Scalar.xori v320 v321
  let c0_i32_275 : BitVec 32 := 0#32
  let v319 : BitVec 1 := Scalar.cmpi .ne v318 c0_i32_275
  let v323 : BitVec 1 := Scalar.andi v322 v319
  let v324 : BitVec 32 := Scalar.addi v318 v317
  let v325 : BitVec 32 := Scalar.select v323 v324 v318
  let c1_i32_283 : BitVec 32 := 1#32
  let v326 : BitVec 32 := Scalar.muli v325 c1_i32_283
  let v327 : BitVec 32 := Scalar.addi c0_i32_284 v326
  v327.toNat
def k0_dev17 (d0 : Dev nD) : Nat :=
  let c0_i32_304 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_291 : BitVec 32 := 3#32
  let v336 : BitVec 32 := Scalar.addi v2 c3_i32_291
  let c8_i32_292 : BitVec 32 := 8#32
  let c0_i32_293 : BitVec 32 := 0#32
  let v337 : BitVec 1 := Scalar.cmpi .eq c8_i32_292 c0_i32_293
  let c1_i32_294 : BitVec 32 := 1#32
  let v338 : BitVec 32 := Scalar.select v337 c1_i32_294 c8_i32_292
  let v339 : BitVec 32 := Scalar.remsi v336 v338
  let c0_i32_296 : BitVec 32 := 0#32
  let v341 : BitVec 1 := Scalar.cmpi .slt v339 c0_i32_296
  let c0_i32_297 : BitVec 32 := 0#32
  let v342 : BitVec 1 := Scalar.cmpi .slt v338 c0_i32_297
  let v343 : BitVec 1 := Scalar.xori v341 v342
  let c0_i32_295 : BitVec 32 := 0#32
  let v340 : BitVec 1 := Scalar.cmpi .ne v339 c0_i32_295
  let v344 : BitVec 1 := Scalar.andi v343 v340
  let v345 : BitVec 32 := Scalar.addi v339 v338
  let v346 : BitVec 32 := Scalar.select v344 v345 v339
  let c1_i32_303 : BitVec 32 := 1#32
  let v347 : BitVec 32 := Scalar.muli v346 c1_i32_303
  let v348 : BitVec 32 := Scalar.addi c0_i32_304 v347
  v348.toNat
def k0_dev18 (d0 : Dev nD) : Nat :=
  let c0_i32_324 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_311 : BitVec 32 := 4#32
  let v357 : BitVec 32 := Scalar.addi v2 c4_i32_311
  let c8_i32_312 : BitVec 32 := 8#32
  let c0_i32_313 : BitVec 32 := 0#32
  let v358 : BitVec 1 := Scalar.cmpi .eq c8_i32_312 c0_i32_313
  let c1_i32_314 : BitVec 32 := 1#32
  let v359 : BitVec 32 := Scalar.select v358 c1_i32_314 c8_i32_312
  let v360 : BitVec 32 := Scalar.remsi v357 v359
  let c0_i32_316 : BitVec 32 := 0#32
  let v362 : BitVec 1 := Scalar.cmpi .slt v360 c0_i32_316
  let c0_i32_317 : BitVec 32 := 0#32
  let v363 : BitVec 1 := Scalar.cmpi .slt v359 c0_i32_317
  let v364 : BitVec 1 := Scalar.xori v362 v363
  let c0_i32_315 : BitVec 32 := 0#32
  let v361 : BitVec 1 := Scalar.cmpi .ne v360 c0_i32_315
  let v365 : BitVec 1 := Scalar.andi v364 v361
  let v366 : BitVec 32 := Scalar.addi v360 v359
  let v367 : BitVec 32 := Scalar.select v365 v366 v360
  let c1_i32_323 : BitVec 32 := 1#32
  let v368 : BitVec 32 := Scalar.muli v367 c1_i32_323
  let v369 : BitVec 32 := Scalar.addi c0_i32_324 v368
  v369.toNat
def k0_dev19 (d0 : Dev nD) : Nat :=
  let c0_i32_344 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_331 : BitVec 32 := 5#32
  let v378 : BitVec 32 := Scalar.addi v2 c5_i32_331
  let c8_i32_332 : BitVec 32 := 8#32
  let c0_i32_333 : BitVec 32 := 0#32
  let v379 : BitVec 1 := Scalar.cmpi .eq c8_i32_332 c0_i32_333
  let c1_i32_334 : BitVec 32 := 1#32
  let v380 : BitVec 32 := Scalar.select v379 c1_i32_334 c8_i32_332
  let v381 : BitVec 32 := Scalar.remsi v378 v380
  let c0_i32_336 : BitVec 32 := 0#32
  let v383 : BitVec 1 := Scalar.cmpi .slt v381 c0_i32_336
  let c0_i32_337 : BitVec 32 := 0#32
  let v384 : BitVec 1 := Scalar.cmpi .slt v380 c0_i32_337
  let v385 : BitVec 1 := Scalar.xori v383 v384
  let c0_i32_335 : BitVec 32 := 0#32
  let v382 : BitVec 1 := Scalar.cmpi .ne v381 c0_i32_335
  let v386 : BitVec 1 := Scalar.andi v385 v382
  let v387 : BitVec 32 := Scalar.addi v381 v380
  let v388 : BitVec 32 := Scalar.select v386 v387 v381
  let c1_i32_343 : BitVec 32 := 1#32
  let v389 : BitVec 32 := Scalar.muli v388 c1_i32_343
  let v390 : BitVec 32 := Scalar.addi c0_i32_344 v389
  v390.toNat
def k0_dev20 (d0 : Dev nD) : Nat :=
  let c0_i32_364 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_351 : BitVec 32 := 6#32
  let v399 : BitVec 32 := Scalar.addi v2 c6_i32_351
  let c8_i32_352 : BitVec 32 := 8#32
  let c0_i32_353 : BitVec 32 := 0#32
  let v400 : BitVec 1 := Scalar.cmpi .eq c8_i32_352 c0_i32_353
  let c1_i32_354 : BitVec 32 := 1#32
  let v401 : BitVec 32 := Scalar.select v400 c1_i32_354 c8_i32_352
  let v402 : BitVec 32 := Scalar.remsi v399 v401
  let c0_i32_356 : BitVec 32 := 0#32
  let v404 : BitVec 1 := Scalar.cmpi .slt v402 c0_i32_356
  let c0_i32_357 : BitVec 32 := 0#32
  let v405 : BitVec 1 := Scalar.cmpi .slt v401 c0_i32_357
  let v406 : BitVec 1 := Scalar.xori v404 v405
  let c0_i32_355 : BitVec 32 := 0#32
  let v403 : BitVec 1 := Scalar.cmpi .ne v402 c0_i32_355
  let v407 : BitVec 1 := Scalar.andi v406 v403
  let v408 : BitVec 32 := Scalar.addi v402 v401
  let v409 : BitVec 32 := Scalar.select v407 v408 v402
  let c1_i32_363 : BitVec 32 := 1#32
  let v410 : BitVec 32 := Scalar.muli v409 c1_i32_363
  let v411 : BitVec 32 := Scalar.addi c0_i32_364 v410
  v411.toNat
def k0_dev21 (d0 : Dev nD) : Nat :=
  let c0_i32_384 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_371 : BitVec 32 := 7#32
  let v420 : BitVec 32 := Scalar.addi v2 c7_i32_371
  let c8_i32_372 : BitVec 32 := 8#32
  let c0_i32_373 : BitVec 32 := 0#32
  let v421 : BitVec 1 := Scalar.cmpi .eq c8_i32_372 c0_i32_373
  let c1_i32_374 : BitVec 32 := 1#32
  let v422 : BitVec 32 := Scalar.select v421 c1_i32_374 c8_i32_372
  let v423 : BitVec 32 := Scalar.remsi v420 v422
  let c0_i32_376 : BitVec 32 := 0#32
  let v425 : BitVec 1 := Scalar.cmpi .slt v423 c0_i32_376
  let c0_i32_377 : BitVec 32 := 0#32
  let v426 : BitVec 1 := Scalar.cmpi .slt v422 c0_i32_377
  let v427 : BitVec 1 := Scalar.xori v425 v426
  let c0_i32_375 : BitVec 32 := 0#32
  let v424 : BitVec 1 := Scalar.cmpi .ne v423 c0_i32_375
  let v428 : BitVec 1 := Scalar.andi v427 v424
  let v429 : BitVec 32 := Scalar.addi v423 v422
  let v430 : BitVec 32 := Scalar.select v428 v429 v423
  let c1_i32_383 : BitVec 32 := 1#32
  let v431 : BitVec 32 := Scalar.muli v430 c1_i32_383
  let v432 : BitVec 32 := Scalar.addi c0_i32_384 v431
  v432.toNat
def k0_off9 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v450 : Index := Scalar.indexCast v2
  let c2 : Index := 2#32
  let c0_399 : Index := 0#32
  let c0_400 : Index := 0#32
  let c0_401 : Index := 0#32
  ![v450.toNat, 2, 0, 0, 0]
def k0_off10 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v455 : Index := Scalar.indexCast v2
  let c2_402 : Index := 2#32
  let c1_403 : Index := 1#32
  let c0_404 : Index := 0#32
  let c0_405 : Index := 0#32
  ![v455.toNat, 2, 1, 0, 0]
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_415 : BitVec 32 := 2#32
  ![v2.toNat, 2]
def k0_off12 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_414 : BitVec 32 := 2#32
  let c0_i32_420 : BitVec 32 := 0#32
  let c0_i32_421 : BitVec 32 := 0#32
  let c0_i32_422 : BitVec 32 := 0#32
  ![v2.toNat, 2, 0, 0, 0]
def k0_dev22 (d0 : Dev nD) : Nat :=
  let c0_i32_419 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_406 : BitVec 32 := 1#32
  let v459 : BitVec 32 := Scalar.addi v2 c1_i32_406
  let c8_i32_407 : BitVec 32 := 8#32
  let c0_i32_408 : BitVec 32 := 0#32
  let v460 : BitVec 1 := Scalar.cmpi .eq c8_i32_407 c0_i32_408
  let c1_i32_409 : BitVec 32 := 1#32
  let v461 : BitVec 32 := Scalar.select v460 c1_i32_409 c8_i32_407
  let v462 : BitVec 32 := Scalar.remsi v459 v461
  let c0_i32_411 : BitVec 32 := 0#32
  let v464 : BitVec 1 := Scalar.cmpi .slt v462 c0_i32_411
  let c0_i32_412 : BitVec 32 := 0#32
  let v465 : BitVec 1 := Scalar.cmpi .slt v461 c0_i32_412
  let v466 : BitVec 1 := Scalar.xori v464 v465
  let c0_i32_410 : BitVec 32 := 0#32
  let v463 : BitVec 1 := Scalar.cmpi .ne v462 c0_i32_410
  let v467 : BitVec 1 := Scalar.andi v466 v463
  let v468 : BitVec 32 := Scalar.addi v462 v461
  let v469 : BitVec 32 := Scalar.select v467 v468 v462
  let c1_i32_418 : BitVec 32 := 1#32
  let v470 : BitVec 32 := Scalar.muli v469 c1_i32_418
  let v471 : BitVec 32 := Scalar.addi c0_i32_419 v470
  v471.toNat
def k0_dev23 (d0 : Dev nD) : Nat :=
  let c0_i32_439 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_426 : BitVec 32 := 2#32
  let v480 : BitVec 32 := Scalar.addi v2 c2_i32_426
  let c8_i32_427 : BitVec 32 := 8#32
  let c0_i32_428 : BitVec 32 := 0#32
  let v481 : BitVec 1 := Scalar.cmpi .eq c8_i32_427 c0_i32_428
  let c1_i32_429 : BitVec 32 := 1#32
  let v482 : BitVec 32 := Scalar.select v481 c1_i32_429 c8_i32_427
  let v483 : BitVec 32 := Scalar.remsi v480 v482
  let c0_i32_431 : BitVec 32 := 0#32
  let v485 : BitVec 1 := Scalar.cmpi .slt v483 c0_i32_431
  let c0_i32_432 : BitVec 32 := 0#32
  let v486 : BitVec 1 := Scalar.cmpi .slt v482 c0_i32_432
  let v487 : BitVec 1 := Scalar.xori v485 v486
  let c0_i32_430 : BitVec 32 := 0#32
  let v484 : BitVec 1 := Scalar.cmpi .ne v483 c0_i32_430
  let v488 : BitVec 1 := Scalar.andi v487 v484
  let v489 : BitVec 32 := Scalar.addi v483 v482
  let v490 : BitVec 32 := Scalar.select v488 v489 v483
  let c1_i32_438 : BitVec 32 := 1#32
  let v491 : BitVec 32 := Scalar.muli v490 c1_i32_438
  let v492 : BitVec 32 := Scalar.addi c0_i32_439 v491
  v492.toNat
def k0_dev24 (d0 : Dev nD) : Nat :=
  let c0_i32_459 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_446 : BitVec 32 := 3#32
  let v501 : BitVec 32 := Scalar.addi v2 c3_i32_446
  let c8_i32_447 : BitVec 32 := 8#32
  let c0_i32_448 : BitVec 32 := 0#32
  let v502 : BitVec 1 := Scalar.cmpi .eq c8_i32_447 c0_i32_448
  let c1_i32_449 : BitVec 32 := 1#32
  let v503 : BitVec 32 := Scalar.select v502 c1_i32_449 c8_i32_447
  let v504 : BitVec 32 := Scalar.remsi v501 v503
  let c0_i32_451 : BitVec 32 := 0#32
  let v506 : BitVec 1 := Scalar.cmpi .slt v504 c0_i32_451
  let c0_i32_452 : BitVec 32 := 0#32
  let v507 : BitVec 1 := Scalar.cmpi .slt v503 c0_i32_452
  let v508 : BitVec 1 := Scalar.xori v506 v507
  let c0_i32_450 : BitVec 32 := 0#32
  let v505 : BitVec 1 := Scalar.cmpi .ne v504 c0_i32_450
  let v509 : BitVec 1 := Scalar.andi v508 v505
  let v510 : BitVec 32 := Scalar.addi v504 v503
  let v511 : BitVec 32 := Scalar.select v509 v510 v504
  let c1_i32_458 : BitVec 32 := 1#32
  let v512 : BitVec 32 := Scalar.muli v511 c1_i32_458
  let v513 : BitVec 32 := Scalar.addi c0_i32_459 v512
  v513.toNat
def k0_dev25 (d0 : Dev nD) : Nat :=
  let c0_i32_479 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_466 : BitVec 32 := 4#32
  let v522 : BitVec 32 := Scalar.addi v2 c4_i32_466
  let c8_i32_467 : BitVec 32 := 8#32
  let c0_i32_468 : BitVec 32 := 0#32
  let v523 : BitVec 1 := Scalar.cmpi .eq c8_i32_467 c0_i32_468
  let c1_i32_469 : BitVec 32 := 1#32
  let v524 : BitVec 32 := Scalar.select v523 c1_i32_469 c8_i32_467
  let v525 : BitVec 32 := Scalar.remsi v522 v524
  let c0_i32_471 : BitVec 32 := 0#32
  let v527 : BitVec 1 := Scalar.cmpi .slt v525 c0_i32_471
  let c0_i32_472 : BitVec 32 := 0#32
  let v528 : BitVec 1 := Scalar.cmpi .slt v524 c0_i32_472
  let v529 : BitVec 1 := Scalar.xori v527 v528
  let c0_i32_470 : BitVec 32 := 0#32
  let v526 : BitVec 1 := Scalar.cmpi .ne v525 c0_i32_470
  let v530 : BitVec 1 := Scalar.andi v529 v526
  let v531 : BitVec 32 := Scalar.addi v525 v524
  let v532 : BitVec 32 := Scalar.select v530 v531 v525
  let c1_i32_478 : BitVec 32 := 1#32
  let v533 : BitVec 32 := Scalar.muli v532 c1_i32_478
  let v534 : BitVec 32 := Scalar.addi c0_i32_479 v533
  v534.toNat
def k0_dev26 (d0 : Dev nD) : Nat :=
  let c0_i32_499 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_486 : BitVec 32 := 5#32
  let v543 : BitVec 32 := Scalar.addi v2 c5_i32_486
  let c8_i32_487 : BitVec 32 := 8#32
  let c0_i32_488 : BitVec 32 := 0#32
  let v544 : BitVec 1 := Scalar.cmpi .eq c8_i32_487 c0_i32_488
  let c1_i32_489 : BitVec 32 := 1#32
  let v545 : BitVec 32 := Scalar.select v544 c1_i32_489 c8_i32_487
  let v546 : BitVec 32 := Scalar.remsi v543 v545
  let c0_i32_491 : BitVec 32 := 0#32
  let v548 : BitVec 1 := Scalar.cmpi .slt v546 c0_i32_491
  let c0_i32_492 : BitVec 32 := 0#32
  let v549 : BitVec 1 := Scalar.cmpi .slt v545 c0_i32_492
  let v550 : BitVec 1 := Scalar.xori v548 v549
  let c0_i32_490 : BitVec 32 := 0#32
  let v547 : BitVec 1 := Scalar.cmpi .ne v546 c0_i32_490
  let v551 : BitVec 1 := Scalar.andi v550 v547
  let v552 : BitVec 32 := Scalar.addi v546 v545
  let v553 : BitVec 32 := Scalar.select v551 v552 v546
  let c1_i32_498 : BitVec 32 := 1#32
  let v554 : BitVec 32 := Scalar.muli v553 c1_i32_498
  let v555 : BitVec 32 := Scalar.addi c0_i32_499 v554
  v555.toNat
def k0_dev27 (d0 : Dev nD) : Nat :=
  let c0_i32_519 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_506 : BitVec 32 := 6#32
  let v564 : BitVec 32 := Scalar.addi v2 c6_i32_506
  let c8_i32_507 : BitVec 32 := 8#32
  let c0_i32_508 : BitVec 32 := 0#32
  let v565 : BitVec 1 := Scalar.cmpi .eq c8_i32_507 c0_i32_508
  let c1_i32_509 : BitVec 32 := 1#32
  let v566 : BitVec 32 := Scalar.select v565 c1_i32_509 c8_i32_507
  let v567 : BitVec 32 := Scalar.remsi v564 v566
  let c0_i32_511 : BitVec 32 := 0#32
  let v569 : BitVec 1 := Scalar.cmpi .slt v567 c0_i32_511
  let c0_i32_512 : BitVec 32 := 0#32
  let v570 : BitVec 1 := Scalar.cmpi .slt v566 c0_i32_512
  let v571 : BitVec 1 := Scalar.xori v569 v570
  let c0_i32_510 : BitVec 32 := 0#32
  let v568 : BitVec 1 := Scalar.cmpi .ne v567 c0_i32_510
  let v572 : BitVec 1 := Scalar.andi v571 v568
  let v573 : BitVec 32 := Scalar.addi v567 v566
  let v574 : BitVec 32 := Scalar.select v572 v573 v567
  let c1_i32_518 : BitVec 32 := 1#32
  let v575 : BitVec 32 := Scalar.muli v574 c1_i32_518
  let v576 : BitVec 32 := Scalar.addi c0_i32_519 v575
  v576.toNat
def k0_dev28 (d0 : Dev nD) : Nat :=
  let c0_i32_539 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_526 : BitVec 32 := 7#32
  let v585 : BitVec 32 := Scalar.addi v2 c7_i32_526
  let c8_i32_527 : BitVec 32 := 8#32
  let c0_i32_528 : BitVec 32 := 0#32
  let v586 : BitVec 1 := Scalar.cmpi .eq c8_i32_527 c0_i32_528
  let c1_i32_529 : BitVec 32 := 1#32
  let v587 : BitVec 32 := Scalar.select v586 c1_i32_529 c8_i32_527
  let v588 : BitVec 32 := Scalar.remsi v585 v587
  let c0_i32_531 : BitVec 32 := 0#32
  let v590 : BitVec 1 := Scalar.cmpi .slt v588 c0_i32_531
  let c0_i32_532 : BitVec 32 := 0#32
  let v591 : BitVec 1 := Scalar.cmpi .slt v587 c0_i32_532
  let v592 : BitVec 1 := Scalar.xori v590 v591
  let c0_i32_530 : BitVec 32 := 0#32
  let v589 : BitVec 1 := Scalar.cmpi .ne v588 c0_i32_530
  let v593 : BitVec 1 := Scalar.andi v592 v589
  let v594 : BitVec 32 := Scalar.addi v588 v587
  let v595 : BitVec 32 := Scalar.select v593 v594 v588
  let c1_i32_538 : BitVec 32 := 1#32
  let v596 : BitVec 32 := Scalar.muli v595 c1_i32_538
  let v597 : BitVec 32 := Scalar.addi c0_i32_539 v596
  v597.toNat
def k0_off13 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v615 : Index := Scalar.indexCast v2
  let c3 : Index := 3#32
  let c0_554 : Index := 0#32
  let c0_555 : Index := 0#32
  let c0_556 : Index := 0#32
  ![v615.toNat, 3, 0, 0, 0]
def k0_off14 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v620 : Index := Scalar.indexCast v2
  let c3_557 : Index := 3#32
  let c1_558 : Index := 1#32
  let c0_559 : Index := 0#32
  let c0_560 : Index := 0#32
  ![v620.toNat, 3, 1, 0, 0]
def k0_off15 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_570 : BitVec 32 := 3#32
  ![v2.toNat, 3]
def k0_off16 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_569 : BitVec 32 := 3#32
  let c0_i32_575 : BitVec 32 := 0#32
  let c0_i32_576 : BitVec 32 := 0#32
  let c0_i32_577 : BitVec 32 := 0#32
  ![v2.toNat, 3, 0, 0, 0]
def k0_dev29 (d0 : Dev nD) : Nat :=
  let c0_i32_574 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_561 : BitVec 32 := 1#32
  let v624 : BitVec 32 := Scalar.addi v2 c1_i32_561
  let c8_i32_562 : BitVec 32 := 8#32
  let c0_i32_563 : BitVec 32 := 0#32
  let v625 : BitVec 1 := Scalar.cmpi .eq c8_i32_562 c0_i32_563
  let c1_i32_564 : BitVec 32 := 1#32
  let v626 : BitVec 32 := Scalar.select v625 c1_i32_564 c8_i32_562
  let v627 : BitVec 32 := Scalar.remsi v624 v626
  let c0_i32_566 : BitVec 32 := 0#32
  let v629 : BitVec 1 := Scalar.cmpi .slt v627 c0_i32_566
  let c0_i32_567 : BitVec 32 := 0#32
  let v630 : BitVec 1 := Scalar.cmpi .slt v626 c0_i32_567
  let v631 : BitVec 1 := Scalar.xori v629 v630
  let c0_i32_565 : BitVec 32 := 0#32
  let v628 : BitVec 1 := Scalar.cmpi .ne v627 c0_i32_565
  let v632 : BitVec 1 := Scalar.andi v631 v628
  let v633 : BitVec 32 := Scalar.addi v627 v626
  let v634 : BitVec 32 := Scalar.select v632 v633 v627
  let c1_i32_573 : BitVec 32 := 1#32
  let v635 : BitVec 32 := Scalar.muli v634 c1_i32_573
  let v636 : BitVec 32 := Scalar.addi c0_i32_574 v635
  v636.toNat
def k0_dev30 (d0 : Dev nD) : Nat :=
  let c0_i32_594 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_581 : BitVec 32 := 2#32
  let v645 : BitVec 32 := Scalar.addi v2 c2_i32_581
  let c8_i32_582 : BitVec 32 := 8#32
  let c0_i32_583 : BitVec 32 := 0#32
  let v646 : BitVec 1 := Scalar.cmpi .eq c8_i32_582 c0_i32_583
  let c1_i32_584 : BitVec 32 := 1#32
  let v647 : BitVec 32 := Scalar.select v646 c1_i32_584 c8_i32_582
  let v648 : BitVec 32 := Scalar.remsi v645 v647
  let c0_i32_586 : BitVec 32 := 0#32
  let v650 : BitVec 1 := Scalar.cmpi .slt v648 c0_i32_586
  let c0_i32_587 : BitVec 32 := 0#32
  let v651 : BitVec 1 := Scalar.cmpi .slt v647 c0_i32_587
  let v652 : BitVec 1 := Scalar.xori v650 v651
  let c0_i32_585 : BitVec 32 := 0#32
  let v649 : BitVec 1 := Scalar.cmpi .ne v648 c0_i32_585
  let v653 : BitVec 1 := Scalar.andi v652 v649
  let v654 : BitVec 32 := Scalar.addi v648 v647
  let v655 : BitVec 32 := Scalar.select v653 v654 v648
  let c1_i32_593 : BitVec 32 := 1#32
  let v656 : BitVec 32 := Scalar.muli v655 c1_i32_593
  let v657 : BitVec 32 := Scalar.addi c0_i32_594 v656
  v657.toNat
def k0_dev31 (d0 : Dev nD) : Nat :=
  let c0_i32_614 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_601 : BitVec 32 := 3#32
  let v666 : BitVec 32 := Scalar.addi v2 c3_i32_601
  let c8_i32_602 : BitVec 32 := 8#32
  let c0_i32_603 : BitVec 32 := 0#32
  let v667 : BitVec 1 := Scalar.cmpi .eq c8_i32_602 c0_i32_603
  let c1_i32_604 : BitVec 32 := 1#32
  let v668 : BitVec 32 := Scalar.select v667 c1_i32_604 c8_i32_602
  let v669 : BitVec 32 := Scalar.remsi v666 v668
  let c0_i32_606 : BitVec 32 := 0#32
  let v671 : BitVec 1 := Scalar.cmpi .slt v669 c0_i32_606
  let c0_i32_607 : BitVec 32 := 0#32
  let v672 : BitVec 1 := Scalar.cmpi .slt v668 c0_i32_607
  let v673 : BitVec 1 := Scalar.xori v671 v672
  let c0_i32_605 : BitVec 32 := 0#32
  let v670 : BitVec 1 := Scalar.cmpi .ne v669 c0_i32_605
  let v674 : BitVec 1 := Scalar.andi v673 v670
  let v675 : BitVec 32 := Scalar.addi v669 v668
  let v676 : BitVec 32 := Scalar.select v674 v675 v669
  let c1_i32_613 : BitVec 32 := 1#32
  let v677 : BitVec 32 := Scalar.muli v676 c1_i32_613
  let v678 : BitVec 32 := Scalar.addi c0_i32_614 v677
  v678.toNat
def k0_dev32 (d0 : Dev nD) : Nat :=
  let c0_i32_634 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_621 : BitVec 32 := 4#32
  let v687 : BitVec 32 := Scalar.addi v2 c4_i32_621
  let c8_i32_622 : BitVec 32 := 8#32
  let c0_i32_623 : BitVec 32 := 0#32
  let v688 : BitVec 1 := Scalar.cmpi .eq c8_i32_622 c0_i32_623
  let c1_i32_624 : BitVec 32 := 1#32
  let v689 : BitVec 32 := Scalar.select v688 c1_i32_624 c8_i32_622
  let v690 : BitVec 32 := Scalar.remsi v687 v689
  let c0_i32_626 : BitVec 32 := 0#32
  let v692 : BitVec 1 := Scalar.cmpi .slt v690 c0_i32_626
  let c0_i32_627 : BitVec 32 := 0#32
  let v693 : BitVec 1 := Scalar.cmpi .slt v689 c0_i32_627
  let v694 : BitVec 1 := Scalar.xori v692 v693
  let c0_i32_625 : BitVec 32 := 0#32
  let v691 : BitVec 1 := Scalar.cmpi .ne v690 c0_i32_625
  let v695 : BitVec 1 := Scalar.andi v694 v691
  let v696 : BitVec 32 := Scalar.addi v690 v689
  let v697 : BitVec 32 := Scalar.select v695 v696 v690
  let c1_i32_633 : BitVec 32 := 1#32
  let v698 : BitVec 32 := Scalar.muli v697 c1_i32_633
  let v699 : BitVec 32 := Scalar.addi c0_i32_634 v698
  v699.toNat
def k0_dev33 (d0 : Dev nD) : Nat :=
  let c0_i32_654 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_641 : BitVec 32 := 5#32
  let v708 : BitVec 32 := Scalar.addi v2 c5_i32_641
  let c8_i32_642 : BitVec 32 := 8#32
  let c0_i32_643 : BitVec 32 := 0#32
  let v709 : BitVec 1 := Scalar.cmpi .eq c8_i32_642 c0_i32_643
  let c1_i32_644 : BitVec 32 := 1#32
  let v710 : BitVec 32 := Scalar.select v709 c1_i32_644 c8_i32_642
  let v711 : BitVec 32 := Scalar.remsi v708 v710
  let c0_i32_646 : BitVec 32 := 0#32
  let v713 : BitVec 1 := Scalar.cmpi .slt v711 c0_i32_646
  let c0_i32_647 : BitVec 32 := 0#32
  let v714 : BitVec 1 := Scalar.cmpi .slt v710 c0_i32_647
  let v715 : BitVec 1 := Scalar.xori v713 v714
  let c0_i32_645 : BitVec 32 := 0#32
  let v712 : BitVec 1 := Scalar.cmpi .ne v711 c0_i32_645
  let v716 : BitVec 1 := Scalar.andi v715 v712
  let v717 : BitVec 32 := Scalar.addi v711 v710
  let v718 : BitVec 32 := Scalar.select v716 v717 v711
  let c1_i32_653 : BitVec 32 := 1#32
  let v719 : BitVec 32 := Scalar.muli v718 c1_i32_653
  let v720 : BitVec 32 := Scalar.addi c0_i32_654 v719
  v720.toNat
def k0_dev34 (d0 : Dev nD) : Nat :=
  let c0_i32_674 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_661 : BitVec 32 := 6#32
  let v729 : BitVec 32 := Scalar.addi v2 c6_i32_661
  let c8_i32_662 : BitVec 32 := 8#32
  let c0_i32_663 : BitVec 32 := 0#32
  let v730 : BitVec 1 := Scalar.cmpi .eq c8_i32_662 c0_i32_663
  let c1_i32_664 : BitVec 32 := 1#32
  let v731 : BitVec 32 := Scalar.select v730 c1_i32_664 c8_i32_662
  let v732 : BitVec 32 := Scalar.remsi v729 v731
  let c0_i32_666 : BitVec 32 := 0#32
  let v734 : BitVec 1 := Scalar.cmpi .slt v732 c0_i32_666
  let c0_i32_667 : BitVec 32 := 0#32
  let v735 : BitVec 1 := Scalar.cmpi .slt v731 c0_i32_667
  let v736 : BitVec 1 := Scalar.xori v734 v735
  let c0_i32_665 : BitVec 32 := 0#32
  let v733 : BitVec 1 := Scalar.cmpi .ne v732 c0_i32_665
  let v737 : BitVec 1 := Scalar.andi v736 v733
  let v738 : BitVec 32 := Scalar.addi v732 v731
  let v739 : BitVec 32 := Scalar.select v737 v738 v732
  let c1_i32_673 : BitVec 32 := 1#32
  let v740 : BitVec 32 := Scalar.muli v739 c1_i32_673
  let v741 : BitVec 32 := Scalar.addi c0_i32_674 v740
  v741.toNat
def k0_dev35 (d0 : Dev nD) : Nat :=
  let c0_i32_694 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_681 : BitVec 32 := 7#32
  let v750 : BitVec 32 := Scalar.addi v2 c7_i32_681
  let c8_i32_682 : BitVec 32 := 8#32
  let c0_i32_683 : BitVec 32 := 0#32
  let v751 : BitVec 1 := Scalar.cmpi .eq c8_i32_682 c0_i32_683
  let c1_i32_684 : BitVec 32 := 1#32
  let v752 : BitVec 32 := Scalar.select v751 c1_i32_684 c8_i32_682
  let v753 : BitVec 32 := Scalar.remsi v750 v752
  let c0_i32_686 : BitVec 32 := 0#32
  let v755 : BitVec 1 := Scalar.cmpi .slt v753 c0_i32_686
  let c0_i32_687 : BitVec 32 := 0#32
  let v756 : BitVec 1 := Scalar.cmpi .slt v752 c0_i32_687
  let v757 : BitVec 1 := Scalar.xori v755 v756
  let c0_i32_685 : BitVec 32 := 0#32
  let v754 : BitVec 1 := Scalar.cmpi .ne v753 c0_i32_685
  let v758 : BitVec 1 := Scalar.andi v757 v754
  let v759 : BitVec 32 := Scalar.addi v753 v752
  let v760 : BitVec 32 := Scalar.select v758 v759 v753
  let c1_i32_693 : BitVec 32 := 1#32
  let v761 : BitVec 32 := Scalar.muli v760 c1_i32_693
  let v762 : BitVec 32 := Scalar.addi c0_i32_694 v761
  v762.toNat
def k0_off17 (d0 : Dev nD) (c1_i32_715 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v827 : BitVec 32 := Scalar.addi v2 c1_i32_715
  let c8_i32_716 : BitVec 32 := 8#32
  let c0_i32_717 : BitVec 32 := 0#32
  let v828 : BitVec 1 := Scalar.cmpi .eq c8_i32_716 c0_i32_717
  let c1_i32_718 : BitVec 32 := 1#32
  let v829 : BitVec 32 := Scalar.select v828 c1_i32_718 c8_i32_716
  let v830 : BitVec 32 := Scalar.remsi v827 v829
  let c0_i32_720 : BitVec 32 := 0#32
  let v832 : BitVec 1 := Scalar.cmpi .slt v830 c0_i32_720
  let c0_i32_721 : BitVec 32 := 0#32
  let v833 : BitVec 1 := Scalar.cmpi .slt v829 c0_i32_721
  let v834 : BitVec 1 := Scalar.xori v832 v833
  let c0_i32_719 : BitVec 32 := 0#32
  let v831 : BitVec 1 := Scalar.cmpi .ne v830 c0_i32_719
  let v835 : BitVec 1 := Scalar.andi v834 v831
  let v836 : BitVec 32 := Scalar.addi v830 v829
  let v837 : BitVec 32 := Scalar.select v835 v836 v830
  let c0_i32_724 : BitVec 32 := 0#32
  ![v837.toNat, 0]
def k0_off18 (d0 : Dev nD) (c1_i32_715 : BitVec 32) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v827 : BitVec 32 := Scalar.addi v2 c1_i32_715
  let c8_i32_716 : BitVec 32 := 8#32
  let c0_i32_717 : BitVec 32 := 0#32
  let v828 : BitVec 1 := Scalar.cmpi .eq c8_i32_716 c0_i32_717
  let c1_i32_718 : BitVec 32 := 1#32
  let v829 : BitVec 32 := Scalar.select v828 c1_i32_718 c8_i32_716
  let v830 : BitVec 32 := Scalar.remsi v827 v829
  let c0_i32_720 : BitVec 32 := 0#32
  let v832 : BitVec 1 := Scalar.cmpi .slt v830 c0_i32_720
  let c0_i32_721 : BitVec 32 := 0#32
  let v833 : BitVec 1 := Scalar.cmpi .slt v829 c0_i32_721
  let v834 : BitVec 1 := Scalar.xori v832 v833
  let c0_i32_719 : BitVec 32 := 0#32
  let v831 : BitVec 1 := Scalar.cmpi .ne v830 c0_i32_719
  let v835 : BitVec 1 := Scalar.andi v834 v831
  let v836 : BitVec 32 := Scalar.addi v830 v829
  let v837 : BitVec 32 := Scalar.select v835 v836 v830
  let c0_i32_723 : BitVec 32 := 0#32
  let c0_i32_729 : BitVec 32 := 0#32
  let c0_i32_730 : BitVec 32 := 0#32
  let c0_i32_731 : BitVec 32 := 0#32
  ![v837.toNat, 0, 0, 0, 0]
def k0_off19 (d0 : Dev nD) (c1_i32_879 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1002 : BitVec 32 := Scalar.addi v2 c1_i32_879
  let c8_i32_880 : BitVec 32 := 8#32
  let c0_i32_881 : BitVec 32 := 0#32
  let v1003 : BitVec 1 := Scalar.cmpi .eq c8_i32_880 c0_i32_881
  let c1_i32_882 : BitVec 32 := 1#32
  let v1004 : BitVec 32 := Scalar.select v1003 c1_i32_882 c8_i32_880
  let v1005 : BitVec 32 := Scalar.remsi v1002 v1004
  let c0_i32_884 : BitVec 32 := 0#32
  let v1007 : BitVec 1 := Scalar.cmpi .slt v1005 c0_i32_884
  let c0_i32_885 : BitVec 32 := 0#32
  let v1008 : BitVec 1 := Scalar.cmpi .slt v1004 c0_i32_885
  let v1009 : BitVec 1 := Scalar.xori v1007 v1008
  let c0_i32_883 : BitVec 32 := 0#32
  let v1006 : BitVec 1 := Scalar.cmpi .ne v1005 c0_i32_883
  let v1010 : BitVec 1 := Scalar.andi v1009 v1006
  let v1011 : BitVec 32 := Scalar.addi v1005 v1004
  let v1012 : BitVec 32 := Scalar.select v1010 v1011 v1005
  let c1_i32_888 : BitVec 32 := 1#32
  ![v1012.toNat, 1]
def k0_off20 (d0 : Dev nD) (c1_i32_879 : BitVec 32) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1002 : BitVec 32 := Scalar.addi v2 c1_i32_879
  let c8_i32_880 : BitVec 32 := 8#32
  let c0_i32_881 : BitVec 32 := 0#32
  let v1003 : BitVec 1 := Scalar.cmpi .eq c8_i32_880 c0_i32_881
  let c1_i32_882 : BitVec 32 := 1#32
  let v1004 : BitVec 32 := Scalar.select v1003 c1_i32_882 c8_i32_880
  let v1005 : BitVec 32 := Scalar.remsi v1002 v1004
  let c0_i32_884 : BitVec 32 := 0#32
  let v1007 : BitVec 1 := Scalar.cmpi .slt v1005 c0_i32_884
  let c0_i32_885 : BitVec 32 := 0#32
  let v1008 : BitVec 1 := Scalar.cmpi .slt v1004 c0_i32_885
  let v1009 : BitVec 1 := Scalar.xori v1007 v1008
  let c0_i32_883 : BitVec 32 := 0#32
  let v1006 : BitVec 1 := Scalar.cmpi .ne v1005 c0_i32_883
  let v1010 : BitVec 1 := Scalar.andi v1009 v1006
  let v1011 : BitVec 32 := Scalar.addi v1005 v1004
  let v1012 : BitVec 32 := Scalar.select v1010 v1011 v1005
  let c1_i32_887 : BitVec 32 := 1#32
  let c0_i32_893 : BitVec 32 := 0#32
  let c0_i32_894 : BitVec 32 := 0#32
  let c0_i32_895 : BitVec 32 := 0#32
  ![v1012.toNat, 1, 0, 0, 0]
def k0_off21 (d0 : Dev nD) (c1_i32_1043 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1177 : BitVec 32 := Scalar.addi v2 c1_i32_1043
  let c8_i32_1044 : BitVec 32 := 8#32
  let c0_i32_1045 : BitVec 32 := 0#32
  let v1178 : BitVec 1 := Scalar.cmpi .eq c8_i32_1044 c0_i32_1045
  let c1_i32_1046 : BitVec 32 := 1#32
  let v1179 : BitVec 32 := Scalar.select v1178 c1_i32_1046 c8_i32_1044
  let v1180 : BitVec 32 := Scalar.remsi v1177 v1179
  let c0_i32_1048 : BitVec 32 := 0#32
  let v1182 : BitVec 1 := Scalar.cmpi .slt v1180 c0_i32_1048
  let c0_i32_1049 : BitVec 32 := 0#32
  let v1183 : BitVec 1 := Scalar.cmpi .slt v1179 c0_i32_1049
  let v1184 : BitVec 1 := Scalar.xori v1182 v1183
  let c0_i32_1047 : BitVec 32 := 0#32
  let v1181 : BitVec 1 := Scalar.cmpi .ne v1180 c0_i32_1047
  let v1185 : BitVec 1 := Scalar.andi v1184 v1181
  let v1186 : BitVec 32 := Scalar.addi v1180 v1179
  let v1187 : BitVec 32 := Scalar.select v1185 v1186 v1180
  let c2_i32_1052 : BitVec 32 := 2#32
  ![v1187.toNat, 2]
def k0_off22 (d0 : Dev nD) (c1_i32_1043 : BitVec 32) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1177 : BitVec 32 := Scalar.addi v2 c1_i32_1043
  let c8_i32_1044 : BitVec 32 := 8#32
  let c0_i32_1045 : BitVec 32 := 0#32
  let v1178 : BitVec 1 := Scalar.cmpi .eq c8_i32_1044 c0_i32_1045
  let c1_i32_1046 : BitVec 32 := 1#32
  let v1179 : BitVec 32 := Scalar.select v1178 c1_i32_1046 c8_i32_1044
  let v1180 : BitVec 32 := Scalar.remsi v1177 v1179
  let c0_i32_1048 : BitVec 32 := 0#32
  let v1182 : BitVec 1 := Scalar.cmpi .slt v1180 c0_i32_1048
  let c0_i32_1049 : BitVec 32 := 0#32
  let v1183 : BitVec 1 := Scalar.cmpi .slt v1179 c0_i32_1049
  let v1184 : BitVec 1 := Scalar.xori v1182 v1183
  let c0_i32_1047 : BitVec 32 := 0#32
  let v1181 : BitVec 1 := Scalar.cmpi .ne v1180 c0_i32_1047
  let v1185 : BitVec 1 := Scalar.andi v1184 v1181
  let v1186 : BitVec 32 := Scalar.addi v1180 v1179
  let v1187 : BitVec 32 := Scalar.select v1185 v1186 v1180
  let c2_i32_1051 : BitVec 32 := 2#32
  let c0_i32_1057 : BitVec 32 := 0#32
  let c0_i32_1058 : BitVec 32 := 0#32
  let c0_i32_1059 : BitVec 32 := 0#32
  ![v1187.toNat, 2, 0, 0, 0]
def k0_off23 (d0 : Dev nD) (c1_i32_1213 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1357 : BitVec 32 := Scalar.addi v2 c1_i32_1213
  let c8_i32_1214 : BitVec 32 := 8#32
  let c0_i32_1215 : BitVec 32 := 0#32
  let v1358 : BitVec 1 := Scalar.cmpi .eq c8_i32_1214 c0_i32_1215
  let c1_i32_1216 : BitVec 32 := 1#32
  let v1359 : BitVec 32 := Scalar.select v1358 c1_i32_1216 c8_i32_1214
  let v1360 : BitVec 32 := Scalar.remsi v1357 v1359
  let c0_i32_1218 : BitVec 32 := 0#32
  let v1362 : BitVec 1 := Scalar.cmpi .slt v1360 c0_i32_1218
  let c0_i32_1219 : BitVec 32 := 0#32
  let v1363 : BitVec 1 := Scalar.cmpi .slt v1359 c0_i32_1219
  let v1364 : BitVec 1 := Scalar.xori v1362 v1363
  let c0_i32_1217 : BitVec 32 := 0#32
  let v1361 : BitVec 1 := Scalar.cmpi .ne v1360 c0_i32_1217
  let v1365 : BitVec 1 := Scalar.andi v1364 v1361
  let v1366 : BitVec 32 := Scalar.addi v1360 v1359
  let v1367 : BitVec 32 := Scalar.select v1365 v1366 v1360
  let c3_i32_1222 : BitVec 32 := 3#32
  ![v1367.toNat, 3]
def k0_off24 (d0 : Dev nD) (c1_i32_1213 : BitVec 32) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1357 : BitVec 32 := Scalar.addi v2 c1_i32_1213
  let c8_i32_1214 : BitVec 32 := 8#32
  let c0_i32_1215 : BitVec 32 := 0#32
  let v1358 : BitVec 1 := Scalar.cmpi .eq c8_i32_1214 c0_i32_1215
  let c1_i32_1216 : BitVec 32 := 1#32
  let v1359 : BitVec 32 := Scalar.select v1358 c1_i32_1216 c8_i32_1214
  let v1360 : BitVec 32 := Scalar.remsi v1357 v1359
  let c0_i32_1218 : BitVec 32 := 0#32
  let v1362 : BitVec 1 := Scalar.cmpi .slt v1360 c0_i32_1218
  let c0_i32_1219 : BitVec 32 := 0#32
  let v1363 : BitVec 1 := Scalar.cmpi .slt v1359 c0_i32_1219
  let v1364 : BitVec 1 := Scalar.xori v1362 v1363
  let c0_i32_1217 : BitVec 32 := 0#32
  let v1361 : BitVec 1 := Scalar.cmpi .ne v1360 c0_i32_1217
  let v1365 : BitVec 1 := Scalar.andi v1364 v1361
  let v1366 : BitVec 32 := Scalar.addi v1360 v1359
  let v1367 : BitVec 32 := Scalar.select v1365 v1366 v1360
  let c3_i32_1221 : BitVec 32 := 3#32
  let c0_i32_1227 : BitVec 32 := 0#32
  let c0_i32_1228 : BitVec 32 := 0#32
  let c0_i32_1229 : BitVec 32 := 0#32
  ![v1367.toNat, 3, 0, 0, 0]
abbrev stage0_0 : Fin 1 → Memref sig .tc .vmem S1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x8192 : Shape := ⟨2, ![4096, 8192]⟩
abbrev S8192 : Shape := ⟨1, ![8192]⟩
abbrev S_ : Shape := ⟨0, ![]⟩
abbrev S4096 : Shape := ⟨1, ![4096]⟩
abbrev S4096x1 : Shape := ⟨2, ![4096, 1]⟩
abbrev S1x8192 : Shape := ⟨2, ![1, 8192]⟩

abbrev nBuf : Space → Nat
  | .hbm => 48
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192, .f32⟩
  | .hbm, ⟨2, _⟩ => ⟨S8192, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .i32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x8192, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x8192, .f32⟩
  | .hbm, ⟨34, _⟩ => ⟨S4096x8192, .f32⟩
  | .hbm, ⟨35, _⟩ => ⟨S1x8192, .f32⟩
  | .hbm, ⟨36, _⟩ => ⟨S4096x8192, .f32⟩
  | .hbm, ⟨37, _⟩ => ⟨S4096x8192, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S4096x8192, .f32⟩
  | .hbm, ⟨43, _⟩ => ⟨S4096x8192, .f32⟩
  | .hbm, ⟨44, _⟩ => ⟨S1x8192, .f32⟩
  | .hbm, ⟨45, _⟩ => ⟨S4096x8192, .f32⟩
  | .hbm, ⟨46, _⟩ => ⟨S4096x8192, .f32⟩
  | .hbm, ⟨47, _⟩ => ⟨S4096x8192, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_1 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩

abbrev nD : Nat := 1
abbrev τ : Topo := Topo.v7x

variable {F : FTy → Type} [FloatOps F]
-- ==== Proof.Chain.lean ====
/-
# Chains: a separating conjunction along a list

The kernel serves its transfers in a fixed order, so its resources are kept as the separating conjunction along the list
of transfers still to serve: a step takes the head. A chain along a duplicate-free list of everything is the library's
`bigSep` over the whole type.
-/
module

public import Idealize.ShloMosaic.Lib.Pipeline.Kit
public import Idealize.ShloMosaic.Lib.Tactic

@[expose] public section

noncomputable section

namespace Cert.Chain

open Idealize.SL Idealize.SL.RA Idealize.SL.BI
open scoped Idealize.SL.BI
open Idealize.SL.BI.BIBase Idealize.SL.BI.Laws Idealize.SL.ProofMode Idealize.SL.Sem

variable {M : Type} [URA M] {ι κ : Type}

/-- `f` at each entry of the list, conjoined. -/
def chain (f : ι → sProp M) : List ι → sProp M
  | [] => iprop(emp)
  | i :: l => iprop(f i ∗ chain f l)

theorem chain_nil (f : ι → sProp M) : chain f [] = iprop(emp) := rfl
theorem chain_cons (f : ι → sProp M) (i : ι) (l : List ι) : chain f (i :: l) = iprop(f i ∗ chain f l) := rfl

/-- Along a duplicate-free list, a chain is the big conjunction over the list's elements. -/
theorem chain_toFinset [DecidableEq ι] (f : ι → sProp M) (l : List ι) (h : l.Nodup) :
    chain f l = bigSep l.toFinset f := by
  induction l with
  | nil => rw [List.toFinset_nil, bigSep_empty]; rfl
  | cons i l ih =>
    have h' := List.nodup_cons.mp h
    rw [List.toFinset_cons, bigSep_insert (by rw [List.mem_toFinset]; exact h'.1), chain_cons, ih h'.2]; rfl

/-- Along a list of everything, without repetition, it is the big conjunction over the type. -/
theorem chain_univ [Fintype ι] [DecidableEq ι] (f : ι → sProp M) (l : List ι) (h : l.Nodup) (hm : ∀ i, i ∈ l) :
    bigSep Finset.univ f = chain f l := by
  rw [chain_toFinset f l h]
  congr 1
  exact (Finset.eq_univ_iff_forall.mpr fun i => List.mem_toFinset.mpr (hm i)).symm

/-- The order of the list is immaterial. -/
theorem chain_perm [DecidableEq ι] (f : ι → sProp M) (l l' : List ι) (h : l.Nodup) (h' : l'.Nodup) (hm : l.toFinset = l'.toFinset) :
    chain f l = chain f l' := by
  rw [chain_toFinset f l h, chain_toFinset f l' h', hm]

theorem chain_append (f : ι → sProp M) (l l' : List ι) : chain f (l ++ l') ⊣⊢ iprop(chain f l ∗ chain f l') := by
  induction l with
  | nil => exact ⟨BIClass.emp_sep.2, BIClass.emp_sep.1⟩
  | cons i l ih =>
    constructor
    · show iprop(f i ∗ chain f (l ++ l')) ⊢ iprop((f i ∗ chain f l) ∗ chain f l')
      refine (sep_mono_right ih.1).trans ?_
      iintro ⟨H1, H2, H3⟩
      isplitl [H1 H2]
      · isplitl [H1] <;> iassumption
      iexact H3
    · show iprop((f i ∗ chain f l) ∗ chain f l') ⊢ iprop(f i ∗ chain f (l ++ l'))
      refine BIBase.Entails.trans ?_ (sep_mono_right ih.2)
      iintro ⟨⟨H1, H2⟩, H3⟩
      isplitl [H1]; · iexact H1
      isplitl [H2] <;> iassumption

theorem chain_map (f : κ → sProp M) (g : ι → κ) (l : List ι) : chain f (l.map g) = chain (fun i => f (g i)) l := by
  induction l with
  | nil => rfl
  | cons i l ih => rw [List.map_cons, chain_cons, chain_cons, ih]

theorem chain_mono (f g : ι → sProp M) (l : List ι) (h : ∀ i ∈ l, f i ⊢ g i) : chain f l ⊢ chain g l := by
  induction l with
  | nil => exact BIBase.Entails.refl
  | cons i l ih =>
    exact (sep_mono_left (h i List.mem_cons_self)).trans (sep_mono_right (ih fun j hj => h j (List.mem_cons_of_mem _ hj)))

theorem chain_sep (f g : ι → sProp M) (l : List ι) : chain (fun i => iprop(f i ∗ g i)) l ⊣⊢ iprop(chain f l ∗ chain g l) := by
  induction l with
  | nil => exact ⟨BIClass.emp_sep.2, BIClass.emp_sep.1⟩
  | cons i l ih =>
    constructor
    · show iprop((f i ∗ g i) ∗ chain (fun i => iprop(f i ∗ g i)) l) ⊢ iprop((f i ∗ chain f l) ∗ g i ∗ chain g l)
      refine (sep_mono_right ih.1).trans ?_
      iintro ⟨⟨H1, H2⟩, H3, H4⟩
      isplitl [H1 H3]
      · isplitl [H1] <;> iassumption
      isplitl [H2] <;> iassumption
    · show iprop((f i ∗ chain f l) ∗ g i ∗ chain g l) ⊢ iprop((f i ∗ g i) ∗ chain (fun i => iprop(f i ∗ g i)) l)
      refine BIBase.Entails.trans ?_ (sep_mono_right ih.2)
      iintro ⟨⟨H1, H3⟩, H2, H4⟩
      isplitl [H1 H2]
      · isplitl [H1] <;> iassumption
      isplitl [H3] <;> iassumption

/-- A persistent fact may be used at every entry. -/
theorem chain_mono_with (R : sProp M) [BI.Persistent R] (f g : ι → sProp M) (l : List ι) (h : ∀ i ∈ l, iprop(R ∗ f i) ⊢ g i) :
    iprop(R ∗ chain f l) ⊢ chain g l := by
  induction l with
  | nil => iintro ⟨-, H⟩; iexact H
  | cons i l ih =>
    show iprop(R ∗ f i ∗ chain f l) ⊢ iprop(g i ∗ chain g l)
    iintro ⟨#HR, H1, H2⟩
    isplitl [H1]
    · iapply (h i List.mem_cons_self); isplitr; · iexact HR
      iexact H1
    · iapply (ih fun j hj => h j (List.mem_cons_of_mem _ hj)); isplitr; · iexact HR
      iexact H2

end Cert.Chain

end
-- ==== Proof.KernelIdeal.Sched.lean ====
/-
# The protocol of the layer norm kernel

Eight devices hold a row-aligned eighth of the columns each. Every device sums its columns (and their squares) row by row, in
four blocks of 1024 rows, and sends each block's two planes of sums to the seven others; slot `(s, b)` of the exchange buffer
holds device `s`'s sums of block `b`, on every device alike.

The cells and their one round:

* a device's barrier cell: seven units, one from each other device. The device `peer c k` hands `c`, with its unit, the four
  slots `(c, b)` of its own exchange buffer: where `c`'s sums will land;
* a device's send cell `(b, k)`: the credit of one slot, back with the read share of `c`'s own slot `(c, b)` lent to the transfer;
* a device's receive cell `(s, b)`, `s` another device: the credit of one slot, with the slot `(s, b)` holding `s`'s sums.

The transfers between a device's own memories complete on cells of its own, which are kept as plain counters.
-/
module

public import proofs.«01_k».proof.Proof.Chain
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Ring
public import Idealize.ShloMosaic.Lib.Tactic

@[expose] public section

noncomputable section

namespace Cert.KernelIdeal.Run

open Cert.KernelIdeal Cert.KernelIdeal.Gen Cert.Chain

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's staging cells, the exchange's cells (seven duty names), the local transfers' counters -/

abbrev UB : Type := URounds (GSem nD τ sig) (Fin 7)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  (Emb.inl : Emb UB (UB × Counters)).trans (embR : Emb (UB × Counters) (MT nD τ sig Unit (Elt F) ℕ UU ℕ))
instance ER_landsIn : (ER : Emb UB 𝕄).LandsIn (upEmb : UEmb _ 𝕄) := by unfold ER; infer_instance
/-- The counters' embedding. -/
abbrev EC : UEmb Counters (MT nD τ sig Unit (Elt F) ℕ UU ℕ) := countersEmb

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The mesh -/

/-- The device `k + 1` places after `c`, around. -/
def peer (c : Dev nD) (k : Fin 7) : Dev nD := ⟨(c.val + 1 + k.val) % 8, Nat.mod_lt _ (by decide)⟩
/-- The place from which a device at place `k` sees the first one. -/
def rev (k : Fin 7) : Fin 7 := ⟨6 - k.val, by omega⟩

theorem peer_rev (c : Dev nD) (k : Fin 7) : peer (peer c k) (rev k) = c := by revert c k; decide
theorem rev_peer (c : Dev nD) (k : Fin 7) : peer (peer c (rev k)) k = c := by revert c k; decide
theorem rev_rev (k : Fin 7) : rev (rev k) = k := by revert k; decide
theorem peer_ne (c : Dev nD) (k : Fin 7) : peer c k ≠ c := by revert c k; decide
theorem peer_inj (c : Dev nD) (k k' : Fin 7) (h : peer c k = peer c k') : k = k' := by revert c k k'; decide
theorem exists_peer (c s : Dev nD) (h : s ≠ c) : ∃ k, s = peer c k := by revert c s; decide

/-! ## The memrefs -/

abbrev xH : Memref sig .tc .hbm S4096x1024 .f32 := Memref.whole main_arg0
abbrev yH : Memref sig .tc .hbm S4096x1024 .bf16 := Memref.whole main_v1
abbrev gV : Memref sig .tc .vmem S1024 .f32 := Memref.whole cc0_stg0_0
abbrev bV : Memref sig .tc .vmem S1024 .f32 := Memref.whole cc0_stg1_0
abbrev xV : Memref sig .tc .vmem S4096x1024 .f32 := Memref.whole cc0_scratch0
abbrev yV : Memref sig .tc .vmem S2x1024x1024 .bf16 := Memref.whole cc0_scratch1
abbrev cV : Memref sig .tc .vmem S8x4x2x8x128 .f32 := Memref.whole cc0_scratch2

/-- The offset of row block `b`; of slot `(s, b)` of the exchange buffer, and of one of its two planes; of output slot `p`. -/
abbrev rowOff (b : Fin 4) : Fin 2 → ℕ := ![1024 * b.val, 0]
abbrev slotOff (s : Dev nD) (b : Fin 4) : Fin 5 → ℕ := ![s.val, b.val, 0, 0, 0]
abbrev planeOff (s : Dev nD) (b : Fin 4) (p : Fin 2) : Fin 5 → ℕ := ![s.val, b.val, p.val, 0, 0]
abbrev colOff (b : Fin 4) : Fin 5 → ℕ := ![0, b.val, 0, 0, 0]
abbrev outOff (p : Fin 2) : Fin 3 → ℕ := ![p.val, 0, 0]

theorem row_inb (b : Fin 4) : ∀ a, rowOff b a + S1024x1024.size a ≤ S4096x1024.size a := by revert b; decide
theorem slot_inb (s : Dev nD) (b : Fin 4) : ∀ a, slotOff s b a + S1x1x2x8x128.size a ≤ S8x4x2x8x128.size a := by revert s b; decide
theorem plane_inb (s : Dev nD) (b : Fin 4) (p : Fin 2) : ∀ a, planeOff s b p a + S1x1x1x8x128.size a ≤ S8x4x2x8x128.size a := by
  revert s b p; decide
theorem col_inb (b : Fin 4) : ∀ a, colOff b a + S8x1x2x8x128.size a ≤ S8x4x2x8x128.size a := by revert b; decide
theorem out_inb (p : Fin 2) : ∀ a, outOff p a + S1x1024x1024.size a ≤ S2x1024x1024.size a := by revert p; decide

abbrev rowR (b : Fin 4) : Rect S4096x1024 := Rect.unit (rowOff b) S1024x1024.size (row_inb b)
abbrev slotR (s : Dev nD) (b : Fin 4) : Rect S8x4x2x8x128 := Rect.unit (slotOff s b) S1x1x2x8x128.size (slot_inb s b)
abbrev planeR (s : Dev nD) (b : Fin 4) (p : Fin 2) : Rect S8x4x2x8x128 := Rect.unit (planeOff s b p) S1x1x1x8x128.size (plane_inb s b p)
abbrev colR (b : Fin 4) : Rect S8x4x2x8x128 := Rect.unit (colOff b) S8x1x2x8x128.size (col_inb b)
abbrev outR (p : Fin 2) : Rect S2x1024x1024 := Rect.unit (outOff p) S1x1024x1024.size (out_inb p)

/-- Slot `(s, b)` as the transfers name it. -/
abbrev slotM (s : Dev nD) (b : Fin 4) : Memref sig .tc .vmem S2x8x128 .f32 :=
  (cV.slice (slotR s b) (fun _ => rfl)).squeeze S2x8x128 squeezes_S1x1x2x8x128_S2x8x128

/-! ## Element sets -/

/-- The elements of slot `(s, b)`; of row block `b`; of output slot `p`. -/
def slotS (s : Dev nD) (b : Fin 4) : Finset S8x4x2x8x128.Idx := Finset.univ.filter fun i => (i 0).val = s.val ∧ (i 1).val = b.val
def rowS (b : Fin 4) : Finset S4096x1024.Idx := Finset.univ.filter fun i => (i 0).val / 1024 = b.val
def outS (p : Fin 2) : Finset S2x1024x1024.Idx := Finset.univ.filter fun i => (i 0).val = p.val

theorem mem_slotS {s : Dev nD} {b : Fin 4} {i : S8x4x2x8x128.Idx} : i ∈ slotS s b ↔ (i 0).val = s.val ∧ (i 1).val = b.val := by
  unfold slotS; simp only [Finset.mem_filter, Finset.mem_univ, true_and]
theorem mem_rowS {b : Fin 4} {i : S4096x1024.Idx} : i ∈ rowS b ↔ (i 0).val / 1024 = b.val := by
  unfold rowS; simp only [Finset.mem_filter, Finset.mem_univ, true_and]
theorem mem_outS {p : Fin 2} {i : S2x1024x1024.Idx} : i ∈ outS p ↔ (i 0).val = p.val := by
  unfold outS; simp only [Finset.mem_filter, Finset.mem_univ, true_and]

theorem slotR_set (s : Dev nD) (b : Fin 4) : (slotR s b).set = slotS s b := by
  ext i
  rw [Rect.mem_set_unit, mem_slotS]
  constructor
  · intro h
    have h0 := h 0; have h1 := h 1
    simp [slotOff, S1x1x2x8x128] at h0 h1
    omega
  · rintro ⟨h0, h1⟩ a
    have := (i a).isLt
    fin_cases a <;> simp_all [slotOff, S1x1x2x8x128, S8x4x2x8x128]

theorem rowR_set (b : Fin 4) : (rowR b).set = rowS b := by
  ext i
  rw [Rect.mem_set_unit, mem_rowS]
  constructor
  · intro h
    have h0 := h 0
    simp [rowOff, S1024x1024] at h0
    omega
  · intro h0 a
    have := (i a).isLt
    fin_cases a
    · simp [rowOff, S1024x1024]; omega
    · simp_all [rowOff, S1024x1024, S4096x1024]

theorem outR_set (p : Fin 2) : (outR p).set = outS p := by
  ext i
  rw [Rect.mem_set_unit, mem_outS]
  constructor
  · intro h
    have h0 := h 0
    simp [outOff, S1x1024x1024] at h0
    omega
  · intro h0 a
    have := (i a).isLt
    fin_cases a <;> simp_all [outOff, S1x1024x1024, S2x1024x1024]

theorem slotM_set (s : Dev nD) (b : Fin 4) : (slotM s b).view.set = slotS s b := by
  exact (View.set_reshape _ _).trans ((View.set_slice_whole _ _).trans (slotR_set s b))

/-! ## The semaphores and cells -/

abbrev barS : Sem sig := (SemArray.scalar (sig.barrier 0 rfl) : Sems sig S_).sem
def inS (b : Fin 4) : DmaSem sig := ⟨2 + b.val, by show _ < 68; omega⟩
def outSem (p : Fin 2) : DmaSem sig := ⟨6 + p.val, by show _ < 68; omega⟩
def sendS (b : Fin 4) (k : Fin 7) : DmaSem sig := ⟨8 + 7 * b.val + k.val, by show _ < 68; omega⟩
def recvS (s : Dev nD) (b : Fin 4) : DmaSem sig := ⟨36 + 4 * s.val + b.val, by show _ < 68; have : s.val < 8 := s.isLt; omega⟩

/-- The receive semaphore as the program slices it out of its array, at any spelling of the offset. -/
theorem recvS_eq (off : Fin 2 → ℕ) (inb) (s : Dev nD) (b : Fin 4) (h : off = ![s.val, b.val]) :
    ((cc0_scratch6.slice (Rect.unit (s := S8x4) off S1x1.size inb)).squeeze S_ squeezes_S1x1_S_).sem = recvS s b := by
  subst h; revert s b; decide +kernel

/-- The cells the exchange runs on: the barrier; a send cell; a receive cell. -/
abbrev Cell : Type := Unit ⊕ ((Fin 4 × Fin 7) ⊕ (Dev nD × Fin 4))
abbrev Cell.bar : Cell := .inl ()
abbrev Cell.send (b : Fin 4) (k : Fin 7) : Cell := .inr (.inl (b, k))
abbrev Cell.recv (s : Dev nD) (b : Fin 4) : Cell := .inr (.inr (s, b))

def csem : Cell → SemLoc sig
  | .inl _ => .reg barS
  | .inr (.inl j) => .dma (sendS j.1 j.2)
  | .inr (.inr j) => .dma (recvS j.1 j.2)

/-- Which cell a semaphore is. -/
def dec : SemLoc sig → Option Cell
  | .reg _ => some .bar
  | .dma q => if h : 36 ≤ q.val then some (.recv ⟨(q.val - 36) / 4, by have : q.val < 68 := q.isLt; show _ < 8; omega⟩ ⟨(q.val - 36) % 4, by omega⟩)
      else if h' : 8 ≤ q.val then some (.send ⟨(q.val - 8) / 7, by omega⟩ ⟨(q.val - 8) % 7, by omega⟩) else none

theorem dec_csem : ∀ x : Cell, dec (csem x) = some x := by decide +kernel
theorem csem_injective : Function.Injective csem := fun x y h => Option.some.inj (by rw [← dec_csem x, h, dec_csem y])

abbrev cellAt (c : Dev nD) (x : Cell) : GSem nD τ sig := ((c : Thread nD τ), csem x)
abbrev barC (c : Dev nD) : GSem nD τ sig := cellAt c .bar
abbrev sendC (c : Dev nD) (b : Fin 4) (k : Fin 7) : GSem nD τ sig := cellAt c (.send b k)
abbrev recvC (c : Dev nD) (s : Dev nD) (b : Fin 4) : GSem nD τ sig := cellAt c (.recv s b)

theorem cellAt_inj {c c' : Dev nD} {x x' : Cell} (h : cellAt c x = cellAt c' x') : c = c' ∧ x = x' :=
  ⟨congrArg (fun g : GSem nD τ sig => g.1.1) h, csem_injective (congrArg Prod.snd h)⟩

/-- The credit of one slot. -/
abbrev N : ℕ := (slotM 0 0).view.dmaCredit
theorem N_pos : 0 < N := View.dmaCredit_pos _ (by decide)

/-! ## Contents -/

/-- Row block `b` of device `s`'s columns. -/
def xrow (s : Dev nD) (b : Fin 4) : Vec F S1024x1024 .f32 :=
  (xH.slice (rowR b) (fun _ => rfl)).view.read (Elt F) (m ((s : Thread nD τ).loc main_arg0))

/-- Where an element of a slot's plane is in the plane's own shape. -/
def inPlane (i : S8x4x2x8x128.Idx) : S1x1x1x8x128.Idx := fun
  | ⟨0, _⟩ => (0 : Fin 1) | ⟨1, _⟩ => (0 : Fin 1) | ⟨2, _⟩ => (0 : Fin 1) | ⟨3, _⟩ => i 3 | ⟨4, _⟩ => i 4

/-- The exchange buffer when every device's sums have landed: the same on every device. -/
def commAll : S8x4x2x8x128.Idx → Elt F .f32 := fun i =>
  if (i 2).val = 0 then k0_pay5 (xrow m (i 0) (i 1)) (inPlane i) else k0_pay6 (xrow m (i 0) (i 1)) (inPlane i)

/-- The sums of row block `b`, of all devices. -/
def gath (b : Fin 4) : Vec F S8x1x2x8x128 .f32 := fun j => commAll m ((colR b).emb j)

def gam (c : Dev nD) : Vec F S1024 .f32 := m ((c : Thread nD τ).loc main_arg1)
def bet (c : Dev nD) : Vec F S1024 .f32 := m ((c : Thread nD τ).loc main_arg2)

/-- The selector of a row's group of 128: row `i` of it is one at place `i / 128`. -/
def selO : FVec F S1024x8 .f32 :=
  k0_pay15 (F := F) (iota .tc S1024x8 32 [0] iota_S1024x8_d0_w32) (iota .tc S1024x8 32 [1] iota_S1024x8_d1_w32) 128#32 k0_pay13 k0_pay14

/-- The normalised block, from all devices' sums `S` of its rows and the columns `x` of this device. -/
def outBlk (S : Vec F S8x1x2x8x128 .f32) (g b : Vec F S1024 .f32) (x : Vec F S1024x1024 .f32) : FVec F S1x1024x1024 .bf16 :=
  k0_pay35 (k0_pay17 g) (k0_pay18 b) (k0_pay33 selO k0_pay16 S) (k0_pay34 selO k0_pay16 S) x

/-- The result on device `c`. -/
def outF (c : Dev nD) : S4096x1024.Idx → Elt F .bf16 := fun i =>
  outBlk (gath m ⟨(i 0).val / 1024, by have : (i 0).val < 4096 := (i 0).isLt; omega⟩) (gam m c) (bet m c)
    (xrow m c ⟨(i 0).val / 1024, by have : (i 0).val < 4096 := (i 0).isLt; omega⟩)
    (fun
      | ⟨0, _⟩ => (0 : Fin 1)
      | ⟨1, _⟩ => (⟨(i 0).val % 1024, Nat.mod_lt _ (by decide)⟩ : Fin 1024)
      | ⟨2, _⟩ => i 1)

/-! ## The points-to assertions of the exchange -/

/-- Slot `(s, b)` of device `c`'s exchange buffer. -/
def slotPts (c s : Dev nD) (b : Fin 4) (q : PosShare TreeShare) (f : S8x4x2x8x128.Idx → Elt F .f32) : sProp 𝕄 :=
  iprop(((c : Thread nD τ).loc cc0_scratch2) ↦[slotS s b]{q} f)

/-- The read share of a slot lent to its `k`-th transfer, and what is left after `k` of them. -/
abbrev lent (k : Fin 7) : PosShare TreeShare := Transfers.shareTokN fullShare k.val
abbrev kept (n : ℕ) : PosShare TreeShare := Transfers.shareDrop fullShare n

/-- A device's four slots as another device holds them: what its unit on that device's barrier hands over. -/
def slotsOf (p c : Dev nD) : sProp 𝕄 := bigSep Finset.univ fun b : Fin 4 => iprop(∃ f, slotPts (F := F) p c b fullShare f)

/-! ## The schedule -/

def dutiesC (c : Dev nD) : Option Cell → Finset (Fin 7)
  | none => ∅
  | some (.inl _) => Finset.univ
  | some (.inr (.inl _)) => {0}
  | some (.inr (.inr j)) => if j.1 = c then ∅ else {0}

def amountC : Option Cell → ℕ
  | some (.inr _) => N
  | _ => 1

def payloadC (c : Dev nD) (d : Fin 7) : Option Cell → sProp 𝕄
  | none => iprop(emp)
  | some (.inl _) => slotsOf (peer c d) c
  | some (.inr (.inl j)) => slotPts c c j.1 (lent j.2) (commAll m)
  | some (.inr (.inr j)) => slotPts c j.1 j.2 fullShare (commAll m)

instance payloadC_storable (c : Dev nD) (d : Fin 7) (x : Option Cell) : BI.Storable upEmb (payloadC m c d x) := by
  rcases x with _ | x
  · unfold payloadC; infer_instance
  · rcases x with x | x | x <;> unfold payloadC <;> (try unfold slotsOf) <;> (try unfold slotPts) <;> infer_instance

/-- The exchange's schedule: one round on every cell. -/
def sch : Rounds.Schedule (GSem nD τ sig) (Fin 7) 𝕄 where
  duties g r := if r = 0 ∧ g.1.2 = .tc then dutiesC g.1.1 (dec g.2) else ∅
  unitless _ := False
  payload g _ d := payloadC m g.1.1 d (dec g.2)
  amount g _ _ := amountC (dec g.2)
  amount_pos _ _ _ _ := by
    unfold amountC; split
    · exact N_pos
    · exact Nat.one_pos

instance sch_payload_storable (g : GSem nD τ sig) (r : ℕ) (d : Fin 7) : BI.Storable (upEmb : UEmb _ 𝕄) ((sch m).payload g r d) :=
  payloadC_storable m _ _ _

theorem duties_at (c : Dev nD) (x : Cell) : (sch m).duties (cellAt c x) 0 = dutiesC c (some x) := by
  unfold sch; dsimp only; rw [if_pos ⟨rfl, rfl⟩, dec_csem]
theorem duties_later (g : GSem nD τ sig) (r : ℕ) (hr : r ≠ 0) : (sch m).duties g r = ∅ := by
  unfold sch; dsimp only; rw [if_neg fun h => hr h.1]
theorem amount_at (c : Dev nD) (x : Cell) (r : ℕ) (d : Fin 7) : (sch m).amount (cellAt c x) r d = amountC (some x) := by
  unfold sch; dsimp only; rw [dec_csem]
theorem payload_at (c : Dev nD) (x : Cell) (r : ℕ) (d : Fin 7) : (sch m).payload (cellAt c x) r d = payloadC m c d (some x) := by
  unfold sch; dsimp only; rw [dec_csem]

theorem duties_bar (c : Dev nD) : (sch m).duties (barC c) 0 = Finset.univ := duties_at m c .bar
theorem duties_send (c : Dev nD) (b : Fin 4) (k : Fin 7) : (sch m).duties (sendC c b k) 0 = {0} := duties_at m c (.send b k)
theorem duties_recv (c s : Dev nD) (b : Fin 4) (h : s ≠ c) : (sch m).duties (recvC c s b) 0 = {0} :=
  (duties_at m c (.recv s b)).trans (if_neg h)
theorem duties_own (c : Dev nD) (b : Fin 4) (r : ℕ) : (sch m).duties (recvC c c b) r = ∅ := by
  by_cases hr : r = 0
  · subst hr; exact (duties_at m c (.recv c b)).trans (if_pos rfl)
  · exact duties_later m _ r hr

theorem expect_bar (c : Dev nD) : (sch m).expect (barC c) 0 = 7 := by
  unfold Schedule.expect Schedule.amountOf
  rw [duties_bar, Finset.sum_congr rfl fun d _ => amount_at m c .bar 0 d]; decide
theorem expect_send (c : Dev nD) (b : Fin 4) (k : Fin 7) : (sch m).expect (sendC c b k) 0 = N := by
  unfold Schedule.expect Schedule.amountOf
  rw [duties_send, Finset.sum_singleton]; exact amount_at m c (.send b k) 0 0
theorem expect_recv (c s : Dev nD) (b : Fin 4) (h : s ≠ c) : (sch m).expect (recvC c s b) 0 = N := by
  unfold Schedule.expect Schedule.amountOf
  rw [duties_recv m c s b h, Finset.sum_singleton]; exact amount_at m c (.recv s b) 0 0

theorem rest_bar (c : Dev nD) : bigSep ((sch m).duties (barC c) 0 \ ∅) ((sch m).payload (barC c) 0)
    = bigSep Finset.univ fun k => slotsOf (F := F) (peer c k) c := by
  rw [Finset.sdiff_empty, duties_bar]; exact bigSep_congr fun d _ => payload_at m c .bar 0 d
theorem rest_send (c : Dev nD) (b : Fin 4) (k : Fin 7) : bigSep ((sch m).duties (sendC c b k) 0 \ ∅) ((sch m).payload (sendC c b k) 0)
    = slotPts c c b (lent k) (commAll m) := by
  rw [Finset.sdiff_empty, duties_send, bigSep_singleton]; exact payload_at m c (.send b k) 0 0
theorem rest_recv (c s : Dev nD) (b : Fin 4) (h : s ≠ c) : bigSep ((sch m).duties (recvC c s b) 0 \ ∅) ((sch m).payload (recvC c s b) 0)
    = slotPts c s b fullShare (commAll m) := by
  rw [Finset.sdiff_empty, duties_recv m c s b h, bigSep_singleton]; exact payload_at m c (.recv s b) 0 0

/-! ## What a device owes -/

/-- The transfers in the order they are sent, and waited for. -/
abbrev allJobs : List (Fin 4 × Fin 7) :=
  [(0, 0), (0, 1), (0, 2), (0, 3), (0, 4), (0, 5), (0, 6), (1, 0), (1, 1), (1, 2), (1, 3), (1, 4), (1, 5), (1, 6),
   (2, 0), (2, 1), (2, 2), (2, 3), (2, 4), (2, 5), (2, 6), (3, 0), (3, 1), (3, 2), (3, 3), (3, 4), (3, 5), (3, 6)]
abbrev allPeers : List (Fin 7) := [0, 1, 2, 3, 4, 5, 6]

theorem allJobs_nodup : allJobs.Nodup := by decide
theorem mem_allJobs : ∀ j, j ∈ allJobs := by decide
theorem allPeers_nodup : allPeers.Nodup := by decide
theorem mem_allPeers : ∀ k, k ∈ allPeers := by decide

/-- The slots still to deliver. -/
def oweS (c : Dev nD) : List (Fin 4 × Fin 7) → CellTallies nD τ sig Unit
  | [] => 0
  | j :: l => oweS c l + tallyAt (recvC (peer c j.2) c j.1) () N
/-- The barrier units still to give, before the slots. -/
def oweB (c : Dev nD) (l' : List (Fin 4 × Fin 7)) : List (Fin 7) → CellTallies nD τ sig Unit
  | [] => oweS c l'
  | k :: l => oweB c l' l + tallyAt (barC (peer c k)) () 1

/-- A device's owed units at launch. -/
def owes₀ (c : Dev nD) : CellTallies nD τ sig Unit := oweB c allJobs allPeers

/-! ## Levels: the staging copies, the local transfers and the send cells below the barrier, the barrier below the receive cells -/

def L (g : GSem nD τ sig) : Finset Unit := if g.1.2 = .tc then {()} else ∅
theorem L_tc (c : Dev nD) (sm : SemLoc sig) : L ((c : Thread nD τ), sm) = {()} := if_pos rfl
def lvC : Option Cell → ℕ
  | some (.inl _) => 1
  | some (.inr (.inr _)) => 2
  | _ => 0
def lv (g : GSem nD τ sig) (_ : Unit) : ℕ := lvC (dec g.2)
theorem lv_at (c : Dev nD) (x : Cell) : lv (cellAt c x) () = lvC (some x) := by unfold lv; rw [dec_csem]

theorem oweS_pos (c : Dev nD) (l : List (Fin 4 × Fin 7)) (g : GSem nD τ sig) (u : Unit) (h : 0 < oweS c l g u) :
    ∃ d s b, g = recvC d s b := by
  induction l with
  | nil => exact absurd h (by simp [oweS])
  | cons j l ih =>
    rcases Nat.eq_zero_or_pos (oweS c l g u) with h0 | h0
    · refine ⟨_, _, _, (?_ : g = recvC (peer c j.2) c j.1)⟩
      by_contra hne
      have h' : 0 < oweS c l g u + tallyAt (recvC (peer c j.2) c j.1) () N g u := h
      rw [h0, tallyAt_ne_cell hne] at h'
      exact absurd h' (by simp)
    · exact ih h0

theorem oweB_pos (c : Dev nD) (l' : List (Fin 4 × Fin 7)) (l : List (Fin 7)) (g : GSem nD τ sig) (u : Unit) (h : 0 < oweB c l' l g u) :
    (∃ d s b, g = recvC d s b) ∨ ∃ d, g = barC d := by
  induction l with
  | nil => exact Or.inl (oweS_pos c l' g u h)
  | cons k l ih =>
    rcases Nat.eq_zero_or_pos (oweB c l' l g u) with h0 | h0
    · refine Or.inr ⟨_, (?_ : g = barC (peer c k))⟩
      by_contra hne
      have h' : 0 < oweB c l' l g u + tallyAt (barC (peer c k)) () 1 g u := h
      rw [h0, tallyAt_ne_cell hne] at h'
      exact absurd h' (by simp)
    · exact ih h0

theorem mem_L_at (c : Dev nD) (x : Cell) (u : Unit) : u ∈ L (cellAt c x) := by rw [L_tc]; exact Finset.mem_singleton_self _

/-- A wait on a cell of level at most one, owing only slots. -/
theorem mayWait_oweS (c : Dev nD) (l : List (Fin 4 × Fin 7)) (sm : SemLoc sig) (h : lvC (dec sm) ≤ 1) :
    iprop(levAts L lv) ⊢ (MayWait ((c : Thread nD τ)) sm () (oweS c l) : sProp 𝕄) :=
  (MayOwe.of_cut (L := L) (lev := lv) 1
    (fun p hp => by rw [Finset.mem_singleton.mp hp, L_tc]; exact Finset.mem_singleton_self _)
    (fun g u hg => by obtain ⟨d, s, b, rfl⟩ := oweS_pos c l g u hg; exact mem_L_at _ _ _)
    (fun p hp => by rw [Finset.mem_singleton.mp hp]; exact h)
    (fun g u hg => by obtain ⟨d, s, b, rfl⟩ := oweS_pos c l g u hg; rw [lv_at]; show _ < (_ : ℕ); simp [lvC]))

/-- A wait on a cell of level zero, owing barrier units too. -/
theorem mayWait_oweB (c : Dev nD) (l' : List (Fin 4 × Fin 7)) (l : List (Fin 7)) (sm : SemLoc sig) (h : lvC (dec sm) = 0) :
    iprop(levAts L lv) ⊢ (MayWait ((c : Thread nD τ)) sm () (oweB c l' l) : sProp 𝕄) :=
  (MayOwe.of_cut (L := L) (lev := lv) 0
    (fun p hp => by rw [Finset.mem_singleton.mp hp, L_tc]; exact Finset.mem_singleton_self _)
    (fun g u hg => by rcases oweB_pos c l' l g u hg with ⟨d, s, b, rfl⟩ | ⟨d, rfl⟩ <;> exact mem_L_at _ _ _)
    (fun p hp => by rw [Finset.mem_singleton.mp hp]; exact h.le)
    (fun g u hg => by
      rcases oweB_pos c l' l g u hg with ⟨d, s, b, rfl⟩ | ⟨d, rfl⟩ <;> (rw [lv_at]; show _ < (_ : ℕ); simp [lvC])))

theorem mayWait_zero (c : Dev nD) (sm : SemLoc sig) : iprop(emp) ⊢ (MayWait ((c : Thread nD τ)) sm () 0 : sProp 𝕄) := by
  rw [MayWait_zero]; iintro H; iexact H

end Cert.KernelIdeal.Run

end
-- ==== Proof.KernelIdeal.Steps.lean ====
/-
# The steps of the layer norm kernel

One lemma per kind of effect of the body. Each consumes the head of the chain of resources its kind is served from, and is stated at
any spelling of the offsets, devices and semaphores, which equations identify.
-/
module

public import proofs.«01_k».proof.Proof.KernelIdeal.Sched
public import Idealize.ShloMosaic.Lib.Pipeline.ValueKit.Geometry
public import Idealize.ShloMosaic.Lib.ValueLayout

@[expose] public section

noncomputable section

namespace Cert.KernelIdeal.Run

open Cert.KernelIdeal Cert.KernelIdeal.Gen Cert.Chain

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The body's programs, and that one of them runs on device `c` to `Q`. -/
abbrev PT (α : Type) : Type 1 := Prog (TpuEff nD τ sig (Elt F) Λ₀ .tc) α
abbrev WP {α : Type} (c : Dev nD) (p : PT (F := F) α) (Q : α → sProp 𝕄) : sProp 𝕄 :=
  wp frame (wpE (defs₀ (F := F)) 𝒱₀ (c : Thread nD τ) none) Set.univ p Q

/-! ## What every step may use -/

/-- The cells' invariants under the names `K`, that every cell has begun its round, and the levels. -/
def ctx (K : Dev nD × Cell → ℕ) : sProp 𝕄 :=
  iprop((bigSep Finset.univ fun p : Dev nD × Cell => cellInv ER (sch m) (K p) (cellAt p.1 p.2))
    ∗ (bigSep Finset.univ fun p : Dev nD × Cell => reached ER (cellAt p.1 p.2) 0) ∗ levAts L lv)

instance ctx_persistent (K : Dev nD × Cell → ℕ) : BI.Persistent (ctx m K) := by unfold ctx; infer_instance

section
variable (K : Dev nD × Cell → ℕ)

theorem ctx_inv (c : Dev nD) (x : Cell) : ctx m K ⊢ cellInv ER (sch m) (K (c, x)) (cellAt c x) := by
  unfold ctx
  iintro ⟨H, -, -⟩
  have h : (bigSep Finset.univ fun p : Dev nD × Cell => cellInv ER (sch m) (K p) (cellAt p.1 p.2)) ⊢ cellInv ER (sch m) (K (c, x)) (cellAt c x) :=
    bigSep_elim (Finset.mem_univ (c, x))
  iapply h
  iexact H

theorem ctx_reached (c : Dev nD) (x : Cell) : ctx m K ⊢ reached ER (cellAt c x) 0 := by
  unfold ctx
  iintro ⟨-, H, -⟩
  have h : (bigSep Finset.univ fun p : Dev nD × Cell => (reached ER (cellAt p.1 p.2) 0 : sProp 𝕄)) ⊢ reached ER (cellAt c x) 0 :=
    bigSep_elim (Finset.mem_univ (c, x))
  iapply h
  iexact H

theorem ctx_lev : ctx m K ⊢ levAts L lv := by
  unfold ctx
  iintro ⟨-, -, H⟩
  iexact H

/-- What the device owes, whatever it waited on before. -/
def owesA (c : Dev nD) (O : CellTallies nD τ sig Unit) : sProp 𝕄 := iprop(∃ W, owes (c : Thread nD τ) O W)

theorem mem_bar (c : Dev nD) (d : Fin 7) : d ∈ (sch m).duties (barC c) 0 := by rw [duties_bar]; exact Finset.mem_univ _
theorem mem_send (c : Dev nD) (b : Fin 4) (k : Fin 7) : 0 ∈ (sch m).duties (sendC c b k) 0 := by
  rw [duties_send]; exact Finset.mem_singleton_self _
theorem mem_recv (c : Dev nD) (b : Fin 4) (k : Fin 7) : 0 ∈ (sch m).duties (recvC (peer c k) c b) 0 := by
  rw [duties_recv m (peer c k) c b (peer_ne c k).symm]; exact Finset.mem_singleton_self _
theorem payload_bar (c : Dev nD) (k : Fin 7) : (sch m).payload (barC (peer c k)) 0 (rev k) = slotsOf c (peer c k) := by
  rw [payload_at]; show slotsOf (peer (peer c k) (rev k)) (peer c k) = _; rw [peer_rev]
theorem payload_send (c : Dev nD) (b : Fin 4) (k : Fin 7) : (sch m).payload (sendC c b k) 0 0 = slotPts c c b (lent k) (commAll m) := by
  rw [payload_at]; rfl
theorem payload_recv (c s : Dev nD) (b : Fin 4) : (sch m).payload (recvC c s b) 0 0 = slotPts c s b fullShare (commAll m) := by
  rw [payload_at]; rfl

/-! ## The barrier -/

/-- What one signal pays with: its duty's token and the four slots it hands over. -/
def sigItem (c : Dev nD) (k : Fin 7) : sProp 𝕄 := iprop(dutyTok ER (barC (peer c k)) 0 (rev k) ∗ slotsOf c (peer c k))

theorem signal_step (c n : Dev nD) (k : Fin 7) (hn : n = peer c k) (l' : List (Fin 4 × Fin 7)) (l : List (Fin 7)) (v : Int) (hv : v = (1 : ℕ))
    {α : Type} {Q : α → sProp 𝕄} {kt : PUnit → PT (F := F) α} :
    ctx m K ⊢ iprop(chain (sigItem c) (k :: l) -∗ owesA c (oweB c l' (k :: l))
      -∗ (chain (sigItem c) l -∗ owesA c (oweB c l' l) -∗ WP c (kt ⟨⟩) Q)
      -∗ WP c (.op (.semSignal (n : Thread nD τ) barS v) kt) Q) := by
  subst hn hv
  rw [chain_cons]
  unfold sigItem owesA
  iintro #HC HS HO Hk
  icases HS with ⟨⟨Ht, Hs⟩, HS⟩
  icases HO with ⟨%W, HO⟩
  have hp : (slotsOf c (peer c k) : sProp 𝕄) ⊢ (sch m).payload ((peer c k : Thread nD τ), .reg barS) 0 (rev k) :=
    Entails.of_eq (payload_bar m c k).symm
  iapply (Rounds.wp_signal 𝒱₀ ER (sch m) (c : Thread nD τ) none (dst := (peer c k : Thread nD τ)) (κ := K (peer c k, .bar))
      (d := rev k) (mem_bar m (peer c k) (rev k)) (amount_at m (peer c k) .bar 0 (rev k)) () (oweB c l' l) rfl)
    $$ [HO Ht Hs]
  · isplitr; · iapply (ctx_inv m K (peer c k) .bar); iexact HC
    isplitl [HO]; · iexact HO
    isplitl [Ht]; · iexact Ht
    isplitl [Hs]
    · iapply hp; iexact Hs
    · iapply (ctx_reached m K (peer c k) .bar); iexact HC
  iintro HO
  iapply Hk $$ HS
  iexists W; iexact HO

/-- What the barrier wait is made with, and what it brings. -/
def barItem (c : Dev nD) : sProp 𝕄 := iprop(cred (tallyAt (barC c) () 7) ∗ atPos ER (barC c) 0 ∅ 0)

theorem bar_step (c : Dev nD) (l : List (Fin 4 × Fin 7)) (v : Int) (hv : v = (7 : ℕ))
    {α : Type} {Q : α → sProp 𝕄} {kt : PUnit → PT (F := F) α} :
    ctx m K ⊢ iprop(barItem c -∗ owesA c (oweS c l)
      -∗ ((bigSep Finset.univ fun k => slotsOf (F := F) (peer c k) c) -∗ semVal (barC c) 0 -∗ owesA c (oweS c l) -∗ WP c (kt ⟨⟩) Q)
      -∗ WP c (.op (.semWait barS v) kt) Q) := by
  subst hv
  unfold barItem owesA
  iintro #HC HB HO Hk
  icases HB with ⟨Hc, Hat⟩
  icases HO with ⟨%W, HO⟩
  iapply (Rounds.wp_wait_rest_token 𝒱₀ ER (sch m) (c : Thread nD τ) none (κ := K (c, .bar))
      (wpE_semWait_eq 𝒱₀ (c : Thread nD τ) none Set.univ) (Set.mem_univ _) () (O := oweS c l) (W := W) (R := 0) (m := 0) (T := ∅)
      (by rw [Nat.zero_add]; exact (expect_bar m c).symm)) $$ [Hc HO Hat]
  · isplitr; · iapply (ctx_inv m K c .bar); iexact HC
    isplitl [Hc]; · iexact Hc
    isplitl [HO]; · iexact HO
    isplitr; · iapply (mayWait_oweS c l (.reg barS) (by decide)); iapply (ctx_lev m K); iexact HC
    iexact Hat
  iintro ⟨HO, Hat, -, Hpay⟩
  imod (Rounds.cell_close ER (sch m) (Set.mem_univ (K (c, .bar))) (fun h => h) (R := 0 + 1) (fun r hr => duties_later m _ r (by omega))) $$ [Hat] with Hz
  · isplitr; · iapply (ctx_inv m K c .bar); iexact HC
    iexact Hat
  iapply Hk $$ [Hpay] Hz
  · iapply (Entails.of_eq (rest_bar m c)); iexact Hpay
  iexists _; iexact HO

/-! ## The transfers to the other devices -/

/-- The tokens of one transfer; the slot it lands in; what is held while it is in flight. -/
def sendTok (c : Dev nD) (j : Fin 4 × Fin 7) : sProp 𝕄 := iprop(dutyTok ER (sendC c j.1 j.2) 0 0 ∗ dutyTok ER (recvC (peer c j.2) c j.1) 0 0)
def landSlot (c : Dev nD) (j : Fin 4 × Fin 7) : sProp 𝕄 := iprop(∃ f, slotPts (F := F) (peer c j.2) c j.1 fullShare f)
def sendCred (c : Dev nD) (j : Fin 4 × Fin 7) : sProp 𝕄 := cred (tallyAt (sendC c j.1 j.2) () N)

/-- The transfers still to send and those in flight. -/
def sendSt (c : Dev nD) (l d : List (Fin 4 × Fin 7)) : sProp 𝕄 :=
  iprop(chain (sendTok (F := F) c) l ∗ chain (landSlot (F := F) c) l ∗ chain (sendCred (F := F) c) d)

/-- A slot written with itself as it stands elsewhere holds the same. -/
theorem slot_write (s : Dev nD) (b : Fin 4) (fd f : (cc0_scratch2 : Ref sig .tc).ty.Contents (Elt F)) (i : S8x4x2x8x128.Idx) (hi : i ∈ slotS s b) :
    (slotM s b).view.write (Elt F) fd ((slotM s b).view.read (Elt F) f) Finset.univ i = f i := by
  rw [← slotM_set] at hi
  obtain ⟨x, -, rfl⟩ := Finset.mem_map.mp hi
  rw [View.write_emb_of_mem _ _ (Finset.mem_univ _)]
  rfl

theorem send_step (c n : Dev nD) (b : Fin 4) (k : Fin 7) (hn : n = peer c k) (i i' : ℕ) (hi : i = k.val) (hi' : i' = k.val + 1) (l d : List (Fin 4 × Fin 7))
    (off off' : Fin 5 → ℕ) (inb : ∀ a, off a + S1x1x2x8x128.size a ≤ S8x4x2x8x128.size a) (inb' : ∀ a, off' a + S1x1x2x8x128.size a ≤ S8x4x2x8x128.size a)
    (hoff : off = slotOff c b) (hoff' : off' = slotOff c b) (sS sR : DmaSem sig) (hS : sS = sendS b k) (hR : sR = recvS c b)
    {hsc : ((cV.slice (Rect.unit (s := S8x4x2x8x128) off' S1x1x2x8x128.size inb') (fun _ => rfl)).squeeze S2x8x128 squeezes_S1x1x2x8x128_S2x8x128
      : Memref sig (Dev.tc n : Thread nD τ).2.kind .vmem S2x8x128 .f32).view.ref.isScScratch = false}
    {hsrc : ((cV.slice (Rect.unit (s := S8x4x2x8x128) off S1x1x2x8x128.size inb) (fun _ => rfl)).squeeze S2x8x128 squeezes_S1x1x2x8x128_S2x8x128).view.WordExact}
    {hdst : ((cV.slice (Rect.unit (s := S8x4x2x8x128) off' S1x1x2x8x128.size inb') (fun _ => rfl)).squeeze S2x8x128 squeezes_S1x1x2x8x128_S2x8x128).view.WordExact}
    {hsem : DmaTarget.Typed .vmem (.dma sR) (.remote (Dev.tc n : Thread nD τ)
      ((cV.slice (Rect.unit (s := S8x4x2x8x128) off' S1x1x2x8x128.size inb') (fun _ => rfl)).squeeze S2x8x128 squeezes_S1x1x2x8x128_S2x8x128
        : Memref sig (Dev.tc n : Thread nD τ).2.kind .vmem S2x8x128 .f32) (.dma sS) hsc)}
    {α : Type} {Q : α → sProp 𝕄} {kt : PUnit → PT (F := F) α} :
    ctx m K ⊢ iprop(sendSt (F := F) c ((b, k) :: l) d -∗ owesA c (oweS c ((b, k) :: l)) -∗ slotPts c c b (kept i) (commAll m)
      -∗ (sendSt (F := F) c l ((b, k) :: d) -∗ owesA c (oweS c l) -∗ slotPts c c b (kept i') (commAll m) -∗ WP c (kt ⟨⟩) Q)
      -∗ WP c (.op (.enqueueDma ((cV.slice (Rect.unit (s := S8x4x2x8x128) off S1x1x2x8x128.size inb) (fun _ => rfl)).squeeze S2x8x128 squeezes_S1x1x2x8x128_S2x8x128)
          (.remote (Dev.tc n : Thread nD τ)
            ((cV.slice (Rect.unit (s := S8x4x2x8x128) off' S1x1x2x8x128.size inb') (fun _ => rfl)).squeeze S2x8x128 squeezes_S1x1x2x8x128_S2x8x128) (.dma sS) hsc)
          (.dma sR) hsrc hdst hsem) kt) Q) := by
  subst hn hi hi' hoff hoff' hS hR
  unfold sendSt owesA
  rw [chain_cons, chain_cons, chain_cons]
  unfold sendTok landSlot
  iintro #HC ⟨⟨⟨HtS, HtR⟩, HT⟩, ⟨⟨%fd, Hl⟩, HL⟩, HD⟩ ⟨%W, HO⟩ Hown Hk
  have hsh : (slotPts c c b (kept k.val) (commAll m) : sProp 𝕄) ⊢ iprop(slotPts c c b (kept (k.val + 1)) (commAll m) ∗ slotPts c c b (lent k) (commAll m)) := by
    unfold slotPts; exact (pointsTo_share (PosShare.mem_left_op_right _)).1
  ihave Hown' := hsh $$ Hown
  icases Hown' with ⟨Hown, Hlent⟩
  have hs : ∀ (d : Dev nD) (q : PosShare TreeShare) (f : Buf (Elt F) ((slotM c b).view.loc (d : Thread nD τ))),
      (((slotM c b).view.loc (d : Thread nD τ) ↦[(slotM c b).view.set]{q} f) : sProp 𝕄) = slotPts d c b q f := by
    intro d q f; unfold slotPts; rw [slotM_set]
  iapply (Rounds.wp_send_pointsTo 𝒱₀ ER (sch m) (c : Thread nD τ) none (c' := (peer c k : Thread nD τ))
    (src := slotM c b) (dst := slotM c b) (sS := .dma (sendS b k)) (sem := .dma (recvS c b)) (q := lent k) (fs := commAll m)
    (κ₁ := K (c, .send b k)) (κ₂ := K (peer c k, .recv c b))
    (r₁ := 0) (r₂ := 0) (d₁ := 0) (d₂ := 0) (fd := fd) (mem_send m c b k) (mem_recv m c b k) () () N rfl
    (amount_at m c (.send b k) 0 0) (amount_at m (peer c k) (.recv c b) 0 0) (oweS c l) rfl (W := W)
    (Entails.of_eq ((hs c (lent k) (commAll m)).trans (payload_send m c b k).symm))
    (Entails.of_eq ((hs (peer c k) fullShare _).trans (Eq.trans (by
      unfold slotPts
      exact pointsTo_congr fun i hi => slot_write c b fd (commAll m) i hi) (payload_recv m (peer c k) c b).symm))))
    $$ [HO HtS HtR Hl Hlent]
  · isplitr; · iapply (ctx_inv m K c (.send b k)); iexact HC
    isplitr; · iapply (ctx_inv m K (peer c k) (.recv c b)); iexact HC
    isplitl [Hlent]; · iapply (Entails.of_eq (hs c (lent k) (commAll m)).symm); iexact Hlent
    isplitl [Hl]; · iapply (Entails.of_eq (hs (peer c k) fullShare fd).symm); iexact Hl
    isplitl [HO]; · iexact HO
    isplitl [HtS]; · iexact HtS
    isplitr; · iapply (ctx_reached m K c (.send b k)); iexact HC
    isplitl [HtR]; · iexact HtR
    iapply (ctx_reached m K (peer c k) (.recv c b)); iexact HC
  iintro ⟨Hc, HO⟩
  iapply Hk $$ [HT HL HD Hc] [HO] Hown
  · isplitl [HT]; · iexact HT
    isplitl [HL]; · iexact HL
    isplitl [Hc]; · unfold sendCred; iexact Hc
    iexact HD
  · iexists W; iexact HO

/-- One transfer's arrival: what it is waited for with; the slot; its cell, closed. -/
def recvItem (c : Dev nD) (j : Fin 4 × Fin 7) : sProp 𝕄 :=
  iprop(cred (tallyAt (recvC c (peer c j.2) j.1) () N) ∗ atPos ER (recvC c (peer c j.2) j.1) 0 ∅ 0)
def landed (c : Dev nD) (j : Fin 4 × Fin 7) : sProp 𝕄 := slotPts c (peer c j.2) j.1 fullShare (commAll m)
def recvZero (c : Dev nD) (j : Fin 4 × Fin 7) : sProp 𝕄 := semVal (recvC c (peer c j.2) j.1) 0

/-- The arrivals still to come, those of this row block, all those past. -/
def recvSt (c : Dev nD) (l d z : List (Fin 4 × Fin 7)) : sProp 𝕄 :=
  iprop(chain (recvItem (F := F) c) l ∗ chain (landed m c) d ∗ chain (recvZero (F := F) c) z)

theorem recv_step (c : Dev nD) (b : Fin 4) (k : Fin 7) (l d z : List (Fin 4 × Fin 7)) (sR : DmaSem sig) (hR : sR = recvS (peer c k) b)
    {sp' : Space} {s' : Shape} {e' : EltTy} {srcw : Memref sig .tc sp' s' e'} {off : Fin 5 → ℕ} {inb : ∀ a, off a + S1x1x2x8x128.size a ≤ S8x4x2x8x128.size a}
    {hsrc : srcw.view.WordExact} {hdst : ((cV.slice (Rect.unit (s := S8x4x2x8x128) off S1x1x2x8x128.size inb) (fun _ => rfl)).squeeze S2x8x128 squeezes_S1x1x2x8x128_S2x8x128).view.WordExact}
    {α : Type} {Q : α → sProp 𝕄} {kt : PUnit → PT (F := F) α} :
    ctx m K ⊢ iprop(recvSt m c ((b, k) :: l) d z -∗ owesA c 0
      -∗ (recvSt m c l ((b, k) :: d) ((b, k) :: z) -∗ owesA c 0 -∗ WP c (kt ⟨⟩) Q)
      -∗ WP c (.op (.waitDma2 sR srcw ((cV.slice (Rect.unit (s := S8x4x2x8x128) off S1x1x2x8x128.size inb) (fun _ => rfl)).squeeze S2x8x128 squeezes_S1x1x2x8x128_S2x8x128) hsrc hdst) kt) Q) := by
  subst hR
  have hN : ((cV.slice (Rect.unit (s := S8x4x2x8x128) off S1x1x2x8x128.size inb) (fun _ => rfl)).squeeze S2x8x128 squeezes_S1x1x2x8x128_S2x8x128).view.dmaCredit = N := rfl
  unfold recvSt owesA
  rw [chain_cons, chain_cons, chain_cons]
  unfold recvItem
  iintro #HC ⟨⟨⟨Hc, Hat⟩, HI⟩, HD, HZ⟩ ⟨%W, HO⟩ Hk
  iapply (Rounds.wp_wait_rest_token 𝒱₀ ER (sch m) (c : Thread nD τ) none (κ := K (c, .recv (peer c k) b)) (sm := .dma (recvS (peer c k) b))
      (wpE_waitDma2_eq 𝒱₀ (c : Thread nD τ) none Set.univ) (Set.mem_univ _) () (O := 0) (W := W) (R := 0) (m := 0) (T := ∅)
      (by rw [Nat.zero_add]; exact hN.trans (expect_recv m c (peer c k) b (peer_ne c k)).symm)) $$ [Hc HO Hat]
  · isplitr; · iapply (ctx_inv m K c (.recv (peer c k) b)); iexact HC
    isplitl [Hc]; · rw [hN]; iexact Hc
    isplitl [HO]; · iexact HO
    isplitr; · rw [MayWait_zero]; iempintro
    iexact Hat
  iintro ⟨HO, Hat, -, Hpay⟩
  imod (Rounds.cell_close ER (sch m) (Set.mem_univ (K (c, .recv (peer c k) b))) (fun h => h) (R := 0 + 1) (fun r hr => duties_later m _ r (by omega))) $$ [Hat] with Hz
  · isplitr; · iapply (ctx_inv m K c (.recv (peer c k) b)); iexact HC
    iexact Hat
  iapply Hk $$ [HI HD HZ Hz Hpay] [HO]
  · isplitl [HI]; · iexact HI
    isplitl [HD Hpay]
    · isplitl [Hpay]; · unfold landed; iapply (Entails.of_eq (rest_recv m c (peer c k) b (peer_ne c k))); iexact Hpay
      iexact HD
    · isplitl [Hz]; · unfold recvZero; iexact Hz
      iexact HZ
  · iexists _; iexact HO

/-- A transfer's departure: what it is waited for with; its cell, closed, with the share lent. -/
def sendItem (c : Dev nD) (j : Fin 4 × Fin 7) : sProp 𝕄 := iprop(sendCred (F := F) c j ∗ atPos ER (sendC c j.1 j.2) 0 ∅ 0)
def sendBack (c : Dev nD) (j : Fin 4 × Fin 7) : sProp 𝕄 := iprop(semVal (sendC c j.1 j.2) 0 ∗ slotPts c c j.1 (lent j.2) (commAll m))

def doneSt (c : Dev nD) (l d : List (Fin 4 × Fin 7)) : sProp 𝕄 := iprop(chain (sendItem (F := F) c) l ∗ chain (sendBack m c) d)

theorem done_step (c : Dev nD) (b : Fin 4) (k : Fin 7) (l d : List (Fin 4 × Fin 7)) (sS : DmaSem sig) (hS : sS = sendS b k)
    {sp' : Space} {s' : Shape} {e' : EltTy} {srcw : Memref sig .tc sp' s' e'} {off : Fin 5 → ℕ} {inb : ∀ a, off a + S1x1x2x8x128.size a ≤ S8x4x2x8x128.size a}
    {hsrc : srcw.view.WordExact} {hdst : ((cV.slice (Rect.unit (s := S8x4x2x8x128) off S1x1x2x8x128.size inb) (fun _ => rfl)).squeeze S2x8x128 squeezes_S1x1x2x8x128_S2x8x128).view.WordExact}
    {α : Type} {Q : α → sProp 𝕄} {kt : PUnit → PT (F := F) α} :
    ctx m K ⊢ iprop(doneSt m c ((b, k) :: l) d -∗ owesA c 0
      -∗ (doneSt m c l ((b, k) :: d) -∗ owesA c 0 -∗ WP c (kt ⟨⟩) Q)
      -∗ WP c (.op (.waitDma2 sS srcw ((cV.slice (Rect.unit (s := S8x4x2x8x128) off S1x1x2x8x128.size inb) (fun _ => rfl)).squeeze S2x8x128 squeezes_S1x1x2x8x128_S2x8x128) hsrc hdst) kt) Q) := by
  subst hS
  have hN : ((cV.slice (Rect.unit (s := S8x4x2x8x128) off S1x1x2x8x128.size inb) (fun _ => rfl)).squeeze S2x8x128 squeezes_S1x1x2x8x128_S2x8x128).view.dmaCredit = N := rfl
  unfold doneSt owesA
  rw [chain_cons, chain_cons]
  unfold sendItem sendCred
  iintro #HC ⟨⟨⟨Hc, Hat⟩, HI⟩, HD⟩ ⟨%W, HO⟩ Hk
  iapply (Rounds.wp_wait_rest_token 𝒱₀ ER (sch m) (c : Thread nD τ) none (κ := K (c, .send b k)) (sm := .dma (sendS b k))
      (wpE_waitDma2_eq 𝒱₀ (c : Thread nD τ) none Set.univ) (Set.mem_univ _) () (O := 0) (W := W) (R := 0) (m := 0) (T := ∅)
      (by rw [Nat.zero_add]; exact hN.trans (expect_send m c b k).symm)) $$ [Hc HO Hat]
  · isplitr; · iapply (ctx_inv m K c (.send b k)); iexact HC
    isplitl [Hc]; · rw [hN]; iexact Hc
    isplitl [HO]; · iexact HO
    isplitr; · rw [MayWait_zero]; iempintro
    iexact Hat
  iintro ⟨HO, Hat, -, Hpay⟩
  imod (Rounds.cell_close ER (sch m) (Set.mem_univ (K (c, .send b k))) (fun h => h) (R := 0 + 1) (fun r hr => duties_later m _ r (by omega))) $$ [Hat] with Hz
  · isplitr; · iapply (ctx_inv m K c (.send b k)); iexact HC
    iexact Hat
  iapply Hk $$ [HI HD Hz Hpay] [HO]
  · isplitl [HI]; · iexact HI
    isplitl [Hz Hpay]
    · unfold sendBack
      isplitl [Hz]; · iexact Hz
      iapply (Entails.of_eq (rest_send m c b k)); iexact Hpay
    iexact HD
  · iexists _; iexact HO

/-! ## The device's own slot -/

/-- The sums a device stores in plane `p` of its slot. -/
def planeVal (s : Dev nD) (b : Fin 4) (p : Fin 2) : Vec F S1x1x1x8x128 .f32 :=
  if p.val = 0 then k0_pay5 (xrow m s b) else k0_pay6 (xrow m s b)

theorem commAll_plane (s : Dev nD) (b : Fin 4) (p : Fin 2) (x : S1x1x1x8x128.Idx) :
    commAll m ((planeR s b p).emb x) = planeVal m s b p x := by
  have hv : ∀ a, ((planeR s b p).emb x a).val = planeOff s b p a + (x a).val := fun a => ValueKit.rect_emb_unit_val _ _ _ _ _
  have x0 : (x 0).val < 1 := (x 0).isLt
  have x1 : (x 1).val < 1 := (x 1).isLt
  have x2 : (x 2).val < 1 := (x 2).isLt
  have h0 : (planeR s b p).emb x 0 = s := Fin.ext ((hv 0).trans (by show s.val + _ = _; omega))
  have h1 : (planeR s b p).emb x 1 = b := Fin.ext ((hv 1).trans (by show b.val + _ = _; omega))
  have h2 : ((planeR s b p).emb x 2).val = p.val := (hv 2).trans (by show p.val + _ = _; omega)
  have hx : inPlane ((planeR s b p).emb x) = x := by
    funext a
    fin_cases a
    · exact Fin.ext (by show 0 = (x 0).val; omega)
    · exact Fin.ext (by show 0 = (x 1).val; omega)
    · exact Fin.ext (by show 0 = (x 2).val; omega)
    · exact Fin.ext ((hv 3).trans (by show 0 + (x 3).val = (x 3).val; omega))
    · exact Fin.ext ((hv 4).trans (by show 0 + (x 4).val = (x 4).val; omega))
  unfold commAll planeVal
  rw [hx, h2, h0, h1]
  by_cases hp : p.val = 0
  · rw [if_pos hp, if_pos hp]
  · rw [if_neg hp, if_neg hp]

/-- The device's own slot, its sums already in the elements `P`. -/
def ownP (c : Dev nD) (b : Fin 4) (P : S8x4x2x8x128.Idx → Prop) : sProp 𝕄 :=
  iprop(∃ f, ⌜∀ i ∈ slotS c b, P i → f i = commAll m i⌝ ∗ slotPts (F := F) c c b fullShare f)

theorem planeR_sub (s : Dev nD) (b : Fin 4) (p : Fin 2) : (planeR s b p).set ⊆ slotS s b := by
  intro i hi
  have h := Rect.mem_set_unit.mp hi
  have h0 := h 0; have h1 := h 1
  rw [mem_slotS]
  simp [planeOff, S1x1x1x8x128] at h0 h1
  omega

theorem plane_mem {s : Dev nD} {b : Fin 4} {p : Fin 2} {i : S8x4x2x8x128.Idx} (hi : i ∈ slotS s b) (hp : (i 2).val = p.val) : i ∈ (planeR s b p).set := by
  rw [mem_slotS] at hi
  refine Rect.mem_set_unit.mpr fun a => ?_
  have := (i a).isLt
  fin_cases a <;> simp_all [planeOff, S1x1x1x8x128, S8x4x2x8x128]

theorem own_load (c : Dev nD) (b : Fin 4) (p : Fin 2) (P : S8x4x2x8x128.Idx → Prop) (off : Fin 5 → ℕ)
    (inb : ∀ a, off a + S1x1x1x8x128.size a ≤ S8x4x2x8x128.size a) (hoff : off = planeOff c b p)
    {hl : cV.view.LoadsAt (Rect.unit (s := S8x4x2x8x128) off S1x1x1x8x128.size inb).toLoadRect}
    {α : Type} {Q : α → sProp 𝕄} {kt : Vec F S1x1x1x8x128 .f32 → PT (F := F) α} :
    ownP m c b P ⊢ iprop((∀ v, ownP m c b P -∗ WP c (kt v) Q)
      -∗ WP c (.op (.load cV (Rect.unit (s := S8x4x2x8x128) off S1x1x1x8x128.size inb).toLoadRect hl) kt) Q) := by
  subst hoff
  unfold ownP slotPts
  iintro ⟨%f, %hf, H⟩ Hk
  iapply (wp_load_rect 𝒱₀ (c : Thread nD τ) none Set.univ (m := cV) (r := planeR c b p)
    (by rw [show (cV.access (planeR c b p)).set = (planeR c b p).set from View.set_slice_whole _ _]; exact planeR_sub c b p)) $$ H
  iintro H
  iapply Hk
  iexists f
  isplitr; · ipureintro; exact hf
  iexact H

theorem own_store (c : Dev nD) (b : Fin 4) (p : Fin 2) (P P' : S8x4x2x8x128.Idx → Prop) (hP : ∀ i, P' i → P i ∨ (i 2).val = p.val) (off : Fin 5 → ℕ)
    (inb : ∀ a, off a + S1x1x1x8x128.size a ≤ S8x4x2x8x128.size a) (hoff : off = planeOff c b p)
    {w : Vec F S1x1x1x8x128 .f32} (hw : w = planeVal m c b p)
    {hx : (cV.access (Rect.unit (s := S8x4x2x8x128) off S1x1x1x8x128.size inb)).Stores Finset.univ} {hm}
    {α : Type} {Q : α → sProp 𝕄} {kt : PUnit → PT (F := F) α} :
    ownP m c b P ⊢ iprop((ownP m c b P' -∗ WP c (kt ⟨⟩) Q)
      -∗ WP c (.op (.store cV (Rect.unit (s := S8x4x2x8x128) off S1x1x1x8x128.size inb) w Finset.univ hx hm) kt) Q) := by
  subst hoff hw
  unfold ownP slotPts
  have hset : (cV.access (planeR c b p)).set = (planeR c b p).set := View.set_slice_whole _ _
  iintro ⟨%f, %hf, H⟩ Hk
  iapply (wp_store 𝒱₀ (c : Thread nD τ) none Set.univ (m := cV) (r := planeR c b p)
    (by rw [View.setOn_univ, hset]; exact planeR_sub c b p)) $$ H
  iintro H
  iapply Hk
  iexists _
  isplitr
  rotate_left
  · iexact H
  · ipureintro
    intro i hi hi'
    by_cases hp : (i 2).val = p.val
    · have hm := plane_mem hi hp
      rw [← hset] at hm
      obtain ⟨x, -, rfl⟩ := Finset.mem_map.mp hm
      rw [View.write_emb_of_mem _ _ (Finset.mem_univ _)]
      exact (commAll_plane m c b p x).symm
    · rw [View.write_of_not_mem]
      · exact hf i hi ((hP i hi').resolve_right hp)
      · rw [View.setOn_univ, hset]
        intro h
        have h2 := (Rect.mem_set_unit.mp h) 2
        simp [planeOff, S1x1x1x8x128] at h2
        omega

theorem own_any (c : Dev nD) (b : Fin 4) : iprop(∃ f, slotPts (F := F) c c b fullShare f) ⊢ ownP m c b fun _ => False := by
  unfold ownP
  iintro ⟨%f, H⟩
  iexists f
  isplitr; · ipureintro; exact fun _ _ h => h.elim
  iexact H

theorem own_full (c : Dev nD) (b : Fin 4) : ownP m c b (fun _ => True) ⊢ slotPts c c b (kept 0) (commAll m) := by
  unfold ownP slotPts
  iintro ⟨%f, %hf, H⟩
  iapply (Entails.of_eq (pointsTo_congr fun i hi => hf i hi trivial))
  iexact H

/-! ## The gathered sums -/

/-- The order in which a row block's arrivals are held: the last first. -/
abbrev jobsR (b : Fin 4) : List (Fin 4 × Fin 7) := [(b, 6), (b, 5), (b, 4), (b, 3), (b, 2), (b, 1), (b, 0)]

def colS (b : Fin 4) : Finset S8x4x2x8x128.Idx := Finset.univ.filter fun i => (i 1).val = b.val
theorem mem_colS {b : Fin 4} {i : S8x4x2x8x128.Idx} : i ∈ colS b ↔ (i 1).val = b.val := by
  unfold colS; simp only [Finset.mem_filter, Finset.mem_univ, true_and]
theorem colR_sub (b : Fin 4) : (colR b).set ⊆ colS b := by
  intro i hi
  have h1 := (Rect.mem_set_unit.mp hi) 1
  rw [mem_colS]
  simp [colOff, S8x1x2x8x128] at h1
  omega

def colL (c : Dev nD) (b : Fin 4) : List (Dev nD) := c :: (jobsR b).map fun j => peer c j.2
theorem col_nodup : ∀ (c : Dev nD) (b : Fin 4), (colL c b).Nodup := by decide
theorem col_mem : ∀ (c : Dev nD) (b : Fin 4) (s : Dev nD), s ∈ colL c b := by decide

theorem colS_eq (b : Fin 4) : colS b = (Finset.univ : Finset (Dev nD)).biUnion fun s => slotS s b := by
  ext i
  simp only [Finset.mem_biUnion, Finset.mem_univ, true_and, mem_colS, mem_slotS]
  exact ⟨fun h => ⟨i 0, rfl, h⟩, fun ⟨_, _, h⟩ => h⟩

/-- A row block's eight slots, own first, are its column of the buffer. -/
theorem col_join (c : Dev nD) (b : Fin 4) (q : PosShare TreeShare) (f : S8x4x2x8x128.Idx → Elt F .f32) :
    (iprop(slotPts c c b q f ∗ chain (fun j : Fin 4 × Fin 7 => slotPts c (peer c j.2) b q f) (jobsR b)) : sProp 𝕄)
      = iprop(((c : Thread nD τ).loc cc0_scratch2) ↦[colS b]{q} f) := by
  have h1 : (iprop(slotPts c c b q f ∗ chain (fun j : Fin 4 × Fin 7 => slotPts c (peer c j.2) b q f) (jobsR b)) : sProp 𝕄)
      = chain (fun s => slotPts c s b q f) (colL c b) := rfl
  have hdis : ∀ s ∈ (Finset.univ : Finset (Dev nD)), ∀ s' ∈ (Finset.univ : Finset (Dev nD)), s ≠ s' → Disjoint (slotS s b) (slotS s' b) :=
    fun s _ s' _ hs => Finset.disjoint_left.mpr fun i hi hi' => hs (Fin.ext ((mem_slotS.mp hi).1.symm.trans (mem_slotS.mp hi').1))
  have h2 : ∀ f' : Buf (Elt F) ((c : Thread nD τ).loc cc0_scratch2),
      (iprop(((c : Thread nD τ).loc cc0_scratch2) ↦[(Finset.univ : Finset (Dev nD)).biUnion fun s => slotS s b]{q} f') : sProp 𝕄)
        = bigSep Finset.univ fun s : Dev nD => iprop(((c : Thread nD τ).loc cc0_scratch2) ↦[slotS s b]{q} f') :=
    fun f' => pointsTo_biUnion (ℓ := (c : Thread nD τ).loc cc0_scratch2) (q := q) (f := f') Finset.univ (fun s => slotS s b) hdis
  rw [h1, ← chain_univ (fun s => slotPts c s b q f) (colL c b) (col_nodup c b) (col_mem c b), colS_eq]
  unfold slotPts
  exact (h2 f).symm

/-- The seven lent shares of a slot. -/
def toks (c s : Dev nD) (b : Fin 4) : sProp 𝕄 :=
  bigSep (Finset.range 7) fun i => iprop(((c : Thread nD τ).loc cc0_scratch2) ↦[slotS s b]{Transfers.shareTokN fullShare i} commAll m)

theorem slot_toks (c s : Dev nD) (b : Fin 4) :
    (slotPts c s b fullShare (commAll m) : sProp 𝕄) ⊣⊢ iprop(slotPts c s b (kept 7) (commAll m) ∗ toks m c s b) := by
  unfold slotPts toks; exact Transfers.pointsTo_toks_range fullShare 7

theorem landed_toks (c : Dev nD) (b : Fin 4) :
    chain (landed m c) (jobsR b) ⊣⊢ iprop(chain (fun j : Fin 4 × Fin 7 => slotPts c (peer c j.2) b (kept 7) (commAll m)) (jobsR b)
      ∗ chain (fun j : Fin 4 × Fin 7 => toks m c (peer c j.2) b) (jobsR b)) := by
  have hb : ∀ j ∈ jobsR b, j.1 = b := by revert b; decide
  constructor
  · refine BIBase.Entails.trans (chain_mono _ _ _ fun j hj => ?_) (chain_sep _ _ _).1
    unfold landed; rw [hb j hj]; exact (slot_toks m c (peer c j.2) b).1
  · refine BIBase.Entails.trans (chain_sep _ _ _).2 (chain_mono _ _ _ fun j hj => ?_)
    unfold landed; rw [hb j hj]; exact (slot_toks m c (peer c j.2) b).2

theorem gath_load (c : Dev nD) (b : Fin 4) (off : Fin 5 → ℕ) (inb : ∀ a, off a + S8x1x2x8x128.size a ≤ S8x4x2x8x128.size a) (hoff : off = colOff b)
    {hl : cV.view.LoadsAt (Rect.unit (s := S8x4x2x8x128) off S8x1x2x8x128.size inb).toLoadRect}
    {α : Type} {Q : α → sProp 𝕄} {kt : Vec F S8x1x2x8x128 .f32 → PT (F := F) α} :
    slotPts c c b (kept 7) (commAll m) ⊢ iprop(chain (landed m c) (jobsR b)
      -∗ (slotPts c c b (kept 7) (commAll m) -∗ chain (landed m c) (jobsR b) -∗ WP c (kt (gath m b)) Q)
      -∗ WP c (.op (.load cV (Rect.unit (s := S8x4x2x8x128) off S8x1x2x8x128.size inb).toLoadRect hl) kt) Q) := by
  subst hoff
  iintro Ho Hl Hk
  ihave Hl' := (landed_toks m c b).1 $$ Hl
  icases Hl' with ⟨Hl, Ht⟩
  have hj := col_join c b (kept 7) (commAll m)
  ihave Hcol := (Entails.of_eq hj) $$ [Ho Hl]
  · isplitl [Ho]; · iexact Ho
    iexact Hl
  iapply (wp_load_rect 𝒱₀ (c : Thread nD τ) none Set.univ (m := cV) (r := colR b)
    (by rw [show (cV.access (colR b)).set = (colR b).set from View.set_slice_whole _ _]; exact colR_sub b)) $$ Hcol
  iintro Hcol
  ihave Hs := (Entails.of_eq hj.symm) $$ Hcol
  icases Hs with ⟨Ho, Hl⟩
  iapply Hk $$ Ho
  iapply (landed_toks m c b).2
  isplitl [Hl]; · iexact Hl
  iexact Ht

/-! ## The rows of the operand -/

/-- The device's columns, as the on-chip copy holds them. -/
def xC (c : Dev nD) : S4096x1024.Idx → Elt F .f32 := m ((c : Thread nD τ).loc main_arg0)

def xHrow (c : Dev nD) (b : Fin 4) : sProp 𝕄 := iprop(((c : Thread nD τ).loc main_arg0) ↦[rowS b]{fullShare} m ((c : Thread nD τ).loc main_arg0))
def xVrow (c : Dev nD) (b : Fin 4) (f : S4096x1024.Idx → Elt F .f32) : sProp 𝕄 := iprop(((c : Thread nD τ).loc cc0_scratch0) ↦[rowS b]{fullShare} f)
def inItem (c : Dev nD) (b : Fin 4) : sProp 𝕄 :=
  iprop(xHrow m c b ∗ (∃ f, xVrow (F := F) c b f) ∗ semVal ((c : Thread nD τ), .dma (inS b)) 0)
abbrev NI : ℕ := (xV.slice (rowR 0) (fun _ => rfl)).view.dmaCredit
def inFl (c : Dev nD) (b : Fin 4) : sProp 𝕄 := Flight EC (c : Thread nD τ) (.dma (inS b)) () NI iprop(xVrow c b (xC m c) ∗ xHrow m c b)
def inDone (c : Dev nD) (b : Fin 4) : sProp 𝕄 := iprop(xHrow m c b ∗ semVal ((c : Thread nD τ), .dma (inS b)) 0)

theorem xV_set (b : Fin 4) : (xV.slice (rowR b) (fun _ => rfl)).view.set = rowS b := (View.set_slice_whole _ _).trans (rowR_set b)
theorem xH_set (b : Fin 4) : (xH.slice (rowR b) (fun _ => rfl)).view.set = rowS b := (View.set_slice_whole _ _).trans (rowR_set b)
theorem yH_set (b : Fin 4) : (yH.slice (rowR b) (fun _ => rfl)).view.set = rowS b := (View.set_slice_whole _ _).trans (rowR_set b)

theorem in_write (c : Dev nD) (b : Fin 4) (fd : (cc0_scratch0 : Ref sig .tc).ty.Contents (Elt F)) (i : S4096x1024.Idx) (hi : i ∈ rowS b) :
    (xV.slice (rowR b) (fun _ => rfl)).view.write (Elt F) fd (ReadAs.same.apply ((xH.slice (rowR b) (fun _ => rfl)).view.read (Elt F) (m ((c : Thread nD τ).loc main_arg0))))
      Finset.univ i = xC m c i := by
  rw [← xV_set] at hi
  obtain ⟨x, -, rfl⟩ := Finset.mem_map.mp hi
  rw [View.write_emb_of_mem _ _ (Finset.mem_univ _)]
  rfl

theorem in_step (c : Dev nD) (b : Fin 4) (off off' : Fin 2 → ℕ) (inb : ∀ a, off a + S1024x1024.size a ≤ S4096x1024.size a)
    (inb' : ∀ a, off' a + S1024x1024.size a ≤ S4096x1024.size a) (hoff : off = rowOff b) (hoff' : off' = rowOff b) (sm : DmaSem sig) (hsm : sm = inS b)
    {hsrc : (xH.slice (Rect.unit (s := S4096x1024) off S1024x1024.size inb) (fun _ => rfl)).view.WordExact}
    {hdst : (xV.slice (Rect.unit (s := S4096x1024) off' S1024x1024.size inb') (fun _ => rfl)).view.WordExact}
    {hsem : DmaTarget.Typed (nD := nD) (τ := τ) .hbm (.dma sm) (.here (p := .tc) (xV.slice (Rect.unit (s := S4096x1024) off' S1024x1024.size inb') (fun _ => rfl)))}
    {α : Type} {Q : α → sProp 𝕄} {kt : PUnit → PT (F := F) α} :
    inItem m c b ⊢ iprop((inFl m c b -∗ WP c (kt ⟨⟩) Q)
      -∗ WP c (.op (.enqueueDma (xH.slice (Rect.unit (s := S4096x1024) off S1024x1024.size inb) (fun _ => rfl))
          (.here (xV.slice (Rect.unit (s := S4096x1024) off' S1024x1024.size inb') (fun _ => rfl))) (.dma sm) hsrc hdst hsem) kt) Q) := by
  subst hoff hoff' hsm
  unfold inItem inFl
  iintro ⟨Hx, ⟨%fd, Hv⟩, Hz⟩ Hk
  have hs : (xHrow m c b : sProp 𝕄) = iprop((xH.slice (rowR b) (fun _ => rfl)).view.loc (c : Thread nD τ) ↦[(xH.slice (rowR b) (fun _ => rfl)).view.set]{fullShare}
      m ((c : Thread nD τ).loc main_arg0)) := by unfold xHrow; rw [xH_set]
  have hD : (xVrow c b (xC m c) : sProp 𝕄) = iprop((xV.slice (rowR b) (fun _ => rfl)).view.loc (c : Thread nD τ) ↦[rowS b]{fullShare}
      ((xV.slice (rowR b) (fun _ => rfl)).view.write (Elt F) fd (ReadAs.same.apply ((xH.slice (rowR b) (fun _ => rfl)).view.read (Elt F) (m ((c : Thread nD τ).loc main_arg0))))
      Finset.univ)) := by
    unfold xVrow; exact pointsTo_congr fun i hi => (in_write m c b fd i hi).symm
  have hF : (Flight EC (c : Thread nD τ) (.dma (inS b)) () NI iprop(((xV.slice (rowR b) (fun _ => rfl)).view.loc (c : Thread nD τ) ↦[rowS b]{fullShare}
      ((xV.slice (rowR b) (fun _ => rfl)).view.write (Elt F) fd (ReadAs.same.apply ((xH.slice (rowR b) (fun _ => rfl)).view.read (Elt F) (m ((c : Thread nD τ).loc main_arg0))))
      Finset.univ)) ∗ ((xH.slice (rowR b) (fun _ => rfl)).view.loc (c : Thread nD τ) ↦[(xH.slice (rowR b) (fun _ => rfl)).view.set]{fullShare}
      m ((c : Thread nD τ).loc main_arg0))) : sProp 𝕄) ⊢ Flight EC (c : Thread nD τ) (.dma (inS b)) () NI iprop(xVrow c b (xC m c) ∗ xHrow m c b) := by
    rw [hs, hD]
  iapply (Transfers.wp_dmaLocal EC 𝒱₀ (c : Thread nD τ) none (src := xH.slice (rowR b) (fun _ => rfl)) (dst := xV.slice (rowR b) (fun _ => rfl))
    (sm := .dma (inS b)) (Sd := rowS b) (fd := fd) () NI rfl (View.dmaCredit_pos _ (by decide)) (by rw [xV_set])) $$ [Hx Hv Hz]
  · isplitl [Hx]; · iapply (Entails.of_eq hs); iexact Hx
    isplitl [Hv]; · unfold xVrow; iexact Hv
    iexact Hz
  iintro H
  iapply Hk
  iapply hF
  iexact H

theorem in_wait (c : Dev nD) (b : Fin 4) (l : List (Fin 4 × Fin 7)) (sm : DmaSem sig) (hsm : sm = inS b)
    {sp' : Space} {s' : Shape} {e' : EltTy} {srcw : Memref sig .tc sp' s' e'} {off : Fin 2 → ℕ} {inb : ∀ a, off a + S1024x1024.size a ≤ S4096x1024.size a}
    {hsrc : srcw.view.WordExact} {hdst : (xV.slice (Rect.unit (s := S4096x1024) off S1024x1024.size inb) (fun _ => rfl)).view.WordExact}
    {α : Type} {Q : α → sProp 𝕄} {kt : PUnit → PT (F := F) α} :
    ctx m K ⊢ iprop(inFl m c b -∗ owesA c (oweS c l)
      -∗ (xVrow c b (xC m c) -∗ inDone m c b -∗ owesA c (oweS c l) -∗ WP c (kt ⟨⟩) Q)
      -∗ WP c (.op (.waitDma2 sm srcw (xV.slice (Rect.unit (s := S4096x1024) off S1024x1024.size inb) (fun _ => rfl)) hsrc hdst) kt) Q) := by
  subst hsm
  have hN : (xV.slice (Rect.unit (s := S4096x1024) off S1024x1024.size inb) (fun _ => rfl)).view.dmaCredit = NI := rfl
  unfold inFl owesA inDone
  iintro #HC HF ⟨%W, HO⟩ Hk
  iapply (Transfers.wp_waitLocalO EC 𝒱₀ (c : Thread nD τ) none () hN) $$ [HF HO]
  · isplitl [HF]; · iexact HF
    isplitl [HO]; · iexact HO
    iapply (mayWait_oweS c l (.dma (inS b)) (by revert b; decide +kernel)); iapply (ctx_lev m K); iexact HC
  iintro ⟨⟨Hv, Hx⟩, Hz, HO⟩
  iapply Hk $$ Hv [Hx Hz]
  · isplitl [Hx]; · iexact Hx
    iexact Hz
  iexists _; iexact HO

theorem row_load (c : Dev nD) (b : Fin 4) (off : Fin 2 → ℕ) (inb : ∀ a, off a + S1024x1024.size a ≤ S4096x1024.size a) (hoff : off = rowOff b)
    {hl : xV.view.LoadsAt (Rect.unit (s := S4096x1024) off S1024x1024.size inb).toLoadRect}
    {α : Type} {Q : α → sProp 𝕄} {kt : Vec F S1024x1024 .f32 → PT (F := F) α} :
    xVrow c b (xC m c) ⊢ iprop((xVrow c b (xC m c) -∗ WP c (kt (xrow m c b)) Q)
      -∗ WP c (.op (.load xV (Rect.unit (s := S4096x1024) off S1024x1024.size inb).toLoadRect hl) kt) Q) := by
  subst hoff
  unfold xVrow
  exact wp_load_rect 𝒱₀ (c : Thread nD τ) none Set.univ (m := xV) (r := rowR b)
    (by rw [show (xV.access (rowR b)).set = (rowR b).set from View.set_slice_whole _ _, rowR_set])

/-! ## The rows of the result -/

/-- A result block, in the output slot. -/
def yC (c : Dev nD) (b : Fin 4) : S2x1024x1024.Idx → Elt F .bf16 := fun i =>
  outBlk (gath m b) (gam m c) (bet m c) (xrow m c b) (fun
    | ⟨0, _⟩ => (0 : Fin 1)
    | ⟨1, _⟩ => i 1
    | ⟨2, _⟩ => i 2)

def ySlot (c : Dev nD) (p : Fin 2) (f : S2x1024x1024.Idx → Elt F .bf16) : sProp 𝕄 := iprop(((c : Thread nD τ).loc cc0_scratch1) ↦[outS p]{fullShare} f)
def yFree (c : Dev nD) (p : Fin 2) : sProp 𝕄 := iprop(∃ f, ySlot (F := F) c p f)
def yHrow (c : Dev nD) (b : Fin 4) (f : S4096x1024.Idx → Elt F .bf16) : sProp 𝕄 := iprop(((c : Thread nD τ).loc main_v1) ↦[rowS b]{fullShare} f)
def outZero (c : Dev nD) (p : Fin 2) : sProp 𝕄 := semVal ((c : Thread nD τ), .dma (outSem p)) 0
abbrev NO : ℕ := (yH.slice (rowR 0) (fun _ => rfl)).view.dmaCredit
def outFl (c : Dev nD) (b : Fin 4) (p : Fin 2) : sProp 𝕄 :=
  Flight EC (c : Thread nD τ) (.dma (outSem p)) () NO iprop(yHrow c b (outF m c) ∗ ySlot c p (yC m c b))

abbrev ySlotM (p : Fin 2) : Memref sig .tc .vmem S1024x1024 .bf16 :=
  (yV.slice (outR p) (fun _ => rfl)).squeeze S1024x1024 squeezes_S1x1024x1024_S1024x1024

theorem ySlotM_set (p : Fin 2) : (ySlotM p).view.set = outS p :=
  (View.set_reshape _ _).trans ((View.set_slice_whole _ _).trans (outR_set p))

theorem y_write (c : Dev nD) (b : Fin 4) (p : Fin 2) (f : (cc0_scratch1 : Ref sig .tc).ty.Contents (Elt F)) (i : S2x1024x1024.Idx) (hi : i ∈ outS p) :
    (yV.access (outR p)).write (Elt F) f (outBlk (gath m b) (gam m c) (bet m c) (xrow m c b)) Finset.univ i = yC m c b i := by
  rw [← show (yV.access (outR p)).set = outS p from (View.set_slice_whole _ _).trans (outR_set p)] at hi
  obtain ⟨x, -, rfl⟩ := Finset.mem_map.mp hi
  rw [View.write_emb_of_mem _ _ (Finset.mem_univ _)]
  unfold yC
  refine congrArg (outBlk (gath m b) (gam m c) (bet m c) (xrow m c b)) (funext fun a => ?_)
  have hv : ∀ a, (((yV.access (outR p)).emb x) a).val = outOff p a + (x a).val := fun a => ValueKit.rect_emb_unit_val _ _ _ _ _
  match a with
  | ⟨0, _⟩ => exact Fin.ext (by have : (x 0).val < 1 := (x 0).isLt; show (x 0).val = 0; omega)
  | ⟨1, _⟩ => exact Fin.ext ((hv 1).trans (by show 0 + (x 1).val = (x 1).val; omega)).symm
  | ⟨2, _⟩ => exact Fin.ext ((hv 2).trans (by show 0 + (x 2).val = (x 2).val; omega)).symm

theorem y_load (c : Dev nD) (p : Fin 2) (off : Fin 3 → ℕ) (inb : ∀ a, off a + S1x1024x1024.size a ≤ S2x1024x1024.size a) (hoff : off = outOff p)
    {hl : yV.view.LoadsAt (Rect.unit (s := S2x1024x1024) off S1x1024x1024.size inb).toLoadRect}
    {α : Type} {Q : α → sProp 𝕄} {kt : Vec F S1x1024x1024 .bf16 → PT (F := F) α} :
    yFree c p ⊢ iprop((∀ v, yFree (F := F) c p -∗ WP c (kt v) Q)
      -∗ WP c (.op (.load yV (Rect.unit (s := S2x1024x1024) off S1x1024x1024.size inb).toLoadRect hl) kt) Q) := by
  subst hoff
  unfold yFree ySlot
  iintro ⟨%f, H⟩ Hk
  iapply (wp_load_rect 𝒱₀ (c : Thread nD τ) none Set.univ (m := yV) (r := outR p)
    (by rw [show (yV.access (outR p)).set = (outR p).set from View.set_slice_whole _ _, outR_set])) $$ H
  iintro H
  iapply Hk
  iexists f
  iexact H

theorem y_store (c : Dev nD) (b : Fin 4) (p : Fin 2) (off : Fin 3 → ℕ) (inb : ∀ a, off a + S1x1024x1024.size a ≤ S2x1024x1024.size a) (hoff : off = outOff p)
    {w : Vec F S1x1024x1024 .bf16} (hw : w = outBlk (gath m b) (gam m c) (bet m c) (xrow m c b))
    {hx : (yV.access (Rect.unit (s := S2x1024x1024) off S1x1024x1024.size inb)).Stores Finset.univ} {hm}
    {α : Type} {Q : α → sProp 𝕄} {kt : PUnit → PT (F := F) α} :
    yFree c p ⊢ iprop((ySlot c p (yC m c b) -∗ WP c (kt ⟨⟩) Q)
      -∗ WP c (.op (.store yV (Rect.unit (s := S2x1024x1024) off S1x1024x1024.size inb) w Finset.univ hx hm) kt) Q) := by
  subst hoff
  have hy : ∀ (f : (cc0_scratch1 : Ref sig .tc).ty.Contents (Elt F)) (i : S2x1024x1024.Idx), i ∈ outS p →
      (yV.access (outR p)).write (Elt F) f w Finset.univ i = yC m c b i := by subst hw; exact fun f i hi => y_write m c b p f i hi
  clear hw
  generalize yC m c b = y at hy ⊢
  unfold yFree ySlot
  have hset : (yV.access (outR p)).set = outS p := (View.set_slice_whole _ _).trans (outR_set p)
  iintro ⟨%f, H⟩ Hk
  have he : (iprop(((c : Thread nD τ).loc cc0_scratch1) ↦[outS p]{fullShare} ((yV.access (outR p)).write (Elt F) f w Finset.univ)) : sProp 𝕄)
      ⊢ iprop(((c : Thread nD τ).loc cc0_scratch1) ↦[outS p]{fullShare} y) := Entails.of_eq (pointsTo_congr fun i hi => hy f i hi)
  iapply (wp_store 𝒱₀ (c : Thread nD τ) none Set.univ (m := yV) (r := outR p) (by rw [View.setOn_univ, hset])) $$ H
  iintro H
  iapply Hk
  iapply he
  iexact H

/-! ## The rows of the result leave -/

/-- Where an element of a block is in an output slot, and where in its rows of the result. -/
theorem ySlotM_emb (p : Fin 2) (x : S1024x1024.Idx) :
    (((ySlotM p).view.emb x) 1 : Fin 1024) = x 0 ∧ (((ySlotM p).view.emb x) 2 : Fin 1024) = x 1 := by
  have h : (ySlotM p).view.emb x = (outR p).emb (Shape.reshapeEquiv (show S1024x1024.numel = S1x1024x1024.numel by decide) x) := rfl
  have hr : (Shape.reshapeEquiv (show S1024x1024.numel = S1x1024x1024.numel by decide) x : S1x1024x1024.Idx) = ValueIdx.ix3 0 (x 0) (x 1) := by
    conv_lhs => rw [show x = ValueIdx.ix2 (x 0) (x 1) from (funext fun a => by match a with | ⟨0, _⟩ => rfl | ⟨1, _⟩ => rfl)]
    exact ValueIdx.reshapeEquiv_ix2_1ab _ _ _
  rw [h, hr]
  have hv : ∀ a, (((outR p).emb (ValueIdx.ix3 0 (x 0) (x 1))) a).val = outOff p a + ((ValueIdx.ix3 0 (x 0) (x 1) : S1x1024x1024.Idx) a).val :=
    fun a => ValueKit.rect_emb_unit_val _ _ _ _ _
  exact ⟨Fin.ext ((hv 1).trans (by show 0 + (x 0).val = (x 0).val; omega)), Fin.ext ((hv 2).trans (by show 0 + (x 1).val = (x 1).val; omega))⟩

theorem outF_at (c : Dev nD) (b : Fin 4) (i : S4096x1024.Idx) (hi : i ∈ rowS b) :
    outF m c i = outBlk (gath m b) (gam m c) (bet m c) (xrow m c b) (fun
      | ⟨0, _⟩ => (0 : Fin 1)
      | ⟨1, _⟩ => (⟨(i 0).val % 1024, Nat.mod_lt _ (by decide)⟩ : Fin 1024)
      | ⟨2, _⟩ => i 1) := by
  obtain rfl : (⟨(i 0).val / 1024, by have : (i 0).val < 4096 := (i 0).isLt; omega⟩ : Fin 4) = b := Fin.ext (mem_rowS.mp hi)
  rfl

theorem out_write (c : Dev nD) (b : Fin 4) (p : Fin 2) (fd : (main_v1 : Ref sig .tc).ty.Contents (Elt F)) (i : S4096x1024.Idx) (hi : i ∈ rowS b) :
    (yH.slice (rowR b) (fun _ => rfl)).view.write (Elt F) fd (ReadAs.same.apply ((ySlotM p).view.read (Elt F) (yC m c b))) Finset.univ i = outF m c i := by
  rw [outF_at m c b i hi]
  rw [← yH_set] at hi
  obtain ⟨x, -, rfl⟩ := Finset.mem_map.mp hi
  rw [View.write_emb_of_mem _ _ (Finset.mem_univ _)]
  have hv : ∀ a, (((rowR b).emb x) a).val = rowOff b a + (x a).val := fun a => ValueKit.rect_emb_unit_val _ _ _ _ _
  have hv0 : (((rowR b).emb x) 0).val = 1024 * b.val + (x 0).val := hv 0
  have hv1 : (((rowR b).emb x) 1).val = 0 + (x 1).val := hv 1
  obtain ⟨h1, h2⟩ := ySlotM_emb p x
  show yC m c b ((ySlotM p).view.emb x) = _
  unfold yC
  have hx0 : (x 0).val < 1024 := (x 0).isLt
  refine congrArg (outBlk (gath m b) (gam m c) (bet m c) (xrow m c b)) (funext fun a => ?_)
  match a with
  | ⟨0, _⟩ => rfl
  | ⟨1, _⟩ => exact h1.trans (Fin.ext (by show (x 0).val = (((rowR b).emb x) 0).val % 1024; omega))
  | ⟨2, _⟩ => exact h2.trans (Fin.ext (by show (x 1).val = (((rowR b).emb x) 1).val; omega))

theorem out_step (c : Dev nD) (b : Fin 4) (p : Fin 2) (off : Fin 3 → ℕ) (off' : Fin 2 → ℕ)
    (inb : ∀ a, off a + S1x1024x1024.size a ≤ S2x1024x1024.size a)
    (inb' : ∀ a, off' a + S1024x1024.size a ≤ S4096x1024.size a) (hoff : off = outOff p) (hoff' : off' = rowOff b) (sm : DmaSem sig) (hsm : sm = outSem p)
    {hsrc : ((yV.slice (Rect.unit (s := S2x1024x1024) off S1x1024x1024.size inb) (fun _ => rfl)).squeeze S1024x1024 squeezes_S1x1024x1024_S1024x1024).view.WordExact}
    {hdst : (yH.slice (Rect.unit (s := S4096x1024) off' S1024x1024.size inb') (fun _ => rfl)).view.WordExact}
    {hsem : DmaTarget.Typed (nD := nD) (τ := τ) .vmem (.dma sm) (.here (p := .tc) (yH.slice (Rect.unit (s := S4096x1024) off' S1024x1024.size inb') (fun _ => rfl)))}
    {α : Type} {Q : α → sProp 𝕄} {kt : PUnit → PT (F := F) α} :
    ySlot c p (yC m c b) ⊢ iprop((∃ f, yHrow (F := F) c b f) -∗ outZero c p -∗ (outFl m c b p -∗ WP c (kt ⟨⟩) Q)
      -∗ WP c (.op (.enqueueDma ((yV.slice (Rect.unit (s := S2x1024x1024) off S1x1024x1024.size inb) (fun _ => rfl)).squeeze S1024x1024 squeezes_S1x1024x1024_S1024x1024)
          (.here (yH.slice (Rect.unit (s := S4096x1024) off' S1024x1024.size inb') (fun _ => rfl))) (.dma sm) hsrc hdst hsem) kt) Q) := by
  subst hoff hoff' hsm
  have hw := out_write m c b p
  unfold outFl outZero
  generalize yC m c b = y at hw ⊢
  generalize outF m c = o at hw ⊢
  unfold yHrow ySlot
  have hs : (iprop(((c : Thread nD τ).loc cc0_scratch1) ↦[outS p]{fullShare} y) : sProp 𝕄)
      = iprop((ySlotM p).view.loc (c : Thread nD τ) ↦[(ySlotM p).view.set]{fullShare} y) := by rw [ySlotM_set]
  iintro Hx ⟨%fd, Hv⟩ Hz Hk
  have hD : (iprop(((c : Thread nD τ).loc main_v1) ↦[rowS b]{fullShare} o) : sProp 𝕄)
      = iprop((yH.slice (rowR b) (fun _ => rfl)).view.loc (c : Thread nD τ) ↦[rowS b]{fullShare}
      ((yH.slice (rowR b) (fun _ => rfl)).view.write (Elt F) fd (ReadAs.same.apply ((ySlotM p).view.read (Elt F) y)) Finset.univ)) :=
    pointsTo_congr fun i hi => (hw fd i hi).symm
  have hF : (Flight EC (c : Thread nD τ) (.dma (outSem p)) () NO iprop(((yH.slice (rowR b) (fun _ => rfl)).view.loc (c : Thread nD τ) ↦[rowS b]{fullShare}
      ((yH.slice (rowR b) (fun _ => rfl)).view.write (Elt F) fd (ReadAs.same.apply ((ySlotM p).view.read (Elt F) y)) Finset.univ))
        ∗ ((ySlotM p).view.loc (c : Thread nD τ) ↦[(ySlotM p).view.set]{fullShare} y)) : sProp 𝕄)
      ⊢ Flight EC (c : Thread nD τ) (.dma (outSem p)) () NO iprop((((c : Thread nD τ).loc main_v1) ↦[rowS b]{fullShare} o)
        ∗ (((c : Thread nD τ).loc cc0_scratch1) ↦[outS p]{fullShare} y)) := by
    rw [hs, hD]
  iapply (Transfers.wp_dmaLocal EC 𝒱₀ (c : Thread nD τ) none (src := ySlotM p) (dst := yH.slice (rowR b) (fun _ => rfl))
    (sm := .dma (outSem p)) (Sd := rowS b) (fd := fd) () NO rfl (View.dmaCredit_pos _ (by decide)) (by rw [yH_set])) $$ [Hx Hv Hz]
  · isplitl [Hx]; · iapply (Entails.of_eq hs); iexact Hx
    isplitl [Hv]; · iexact Hv
    iexact Hz
  iintro H
  iapply Hk
  iapply hF
  iexact H

theorem out_wait (c : Dev nD) (b : Fin 4) (p : Fin 2) (sm : DmaSem sig) (hsm : sm = outSem p)
    {sp' : Space} {s' : Shape} {e' : EltTy} {srcw : Memref sig .tc sp' s' e'} {off : Fin 2 → ℕ} {inb : ∀ a, off a + S1024x1024.size a ≤ S4096x1024.size a}
    {hsrc : srcw.view.WordExact} {hdst : (yH.slice (Rect.unit (s := S4096x1024) off S1024x1024.size inb) (fun _ => rfl)).view.WordExact}
    {α : Type} {Q : α → sProp 𝕄} {kt : PUnit → PT (F := F) α} :
    ctx m K ⊢ iprop(outFl m c b p -∗ owesA c 0
      -∗ (yHrow c b (outF m c) -∗ yFree (F := F) c p -∗ outZero c p -∗ owesA c 0 -∗ WP c (kt ⟨⟩) Q)
      -∗ WP c (.op (.waitDma2 sm srcw (yH.slice (Rect.unit (s := S4096x1024) off S1024x1024.size inb) (fun _ => rfl)) hsrc hdst) kt) Q) := by
  subst hsm
  have hN : (yH.slice (Rect.unit (s := S4096x1024) off S1024x1024.size inb) (fun _ => rfl)).view.dmaCredit = NO := rfl
  unfold outFl owesA outZero yFree
  iintro #HC HF ⟨%W, HO⟩ Hk
  iapply (Transfers.wp_waitLocalO EC 𝒱₀ (c : Thread nD τ) none () hN) $$ [HF HO]
  · isplitl [HF]; · iexact HF
    isplitl [HO]; · iexact HO
    iapply (mayWait_zero c (.dma (outSem p))); iempintro
  iintro ⟨⟨Hv, Hx⟩, Hz, HO⟩
  iapply Hk $$ Hv [Hx] Hz
  · iexists _; iexact Hx
  iexists _; iexact HO
end

end Cert.KernelIdeal.Run

end
-- ==== Proof.KernelIdeal.Body.lean ====
/-
# The body of the layer norm kernel, on one device

The program, part by part, from what a device holds at launch to what it holds at the end.
-/
module

public import proofs.«01_k».proof.Proof.KernelIdeal.Steps

@[expose] public section

noncomputable section

namespace Cert.KernelIdeal.Run

open Cert.KernelIdeal Cert.KernelIdeal.Gen Cert.Chain

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The devices and offsets the program computes -/

theorem dev_1 (c : Dev nD) : (⟨k0_dev1 c, k0_dev1_lt c⟩ : Dev nD) = peer c 0 := Fin.ext (by revert c; decide)
theorem dev_2 (c : Dev nD) : (⟨k0_dev2 c, k0_dev2_lt c⟩ : Dev nD) = peer c 1 := Fin.ext (by revert c; decide)
theorem dev_3 (c : Dev nD) : (⟨k0_dev3 c, k0_dev3_lt c⟩ : Dev nD) = peer c 2 := Fin.ext (by revert c; decide)
theorem dev_4 (c : Dev nD) : (⟨k0_dev4 c, k0_dev4_lt c⟩ : Dev nD) = peer c 3 := Fin.ext (by revert c; decide)
theorem dev_5 (c : Dev nD) : (⟨k0_dev5 c, k0_dev5_lt c⟩ : Dev nD) = peer c 4 := Fin.ext (by revert c; decide)
theorem dev_6 (c : Dev nD) : (⟨k0_dev6 c, k0_dev6_lt c⟩ : Dev nD) = peer c 5 := Fin.ext (by revert c; decide)
theorem dev_7 (c : Dev nD) : (⟨k0_dev7 c, k0_dev7_lt c⟩ : Dev nD) = peer c 6 := Fin.ext (by revert c; decide)

theorem off_slot_0 (c : Dev nD) : k0_off4 c = slotOff c 0 := by revert c; decide
theorem off_slot_1 (c : Dev nD) : k0_off8 c = slotOff c 1 := by revert c; decide
theorem off_slot_2 (c : Dev nD) : k0_off12 c = slotOff c 2 := by revert c; decide
theorem off_slot_3 (c : Dev nD) : k0_off16 c = slotOff c 3 := by revert c; decide
theorem off_own_0 (c : Dev nD) : k0_off3 c = ![c.val, (0 : Fin 4).val] := by revert c; decide
theorem off_own_1 (c : Dev nD) : k0_off7 c = ![c.val, (1 : Fin 4).val] := by revert c; decide
theorem off_own_2 (c : Dev nD) : k0_off11 c = ![c.val, (2 : Fin 4).val] := by revert c; decide
theorem off_own_3 (c : Dev nD) : k0_off15 c = ![c.val, (3 : Fin 4).val] := by revert c; decide
theorem off_sum_0 (c : Dev nD) : k0_off1 c = planeOff c 0 0 := by revert c; decide
theorem off_sq_0 (c : Dev nD) : k0_off2 c = planeOff c 0 1 := by revert c; decide
theorem off_sum_1 (c : Dev nD) : k0_off5 c = planeOff c 1 0 := by revert c; decide
theorem off_sq_1 (c : Dev nD) : k0_off6 c = planeOff c 1 1 := by revert c; decide
theorem off_sum_2 (c : Dev nD) : k0_off9 c = planeOff c 2 0 := by revert c; decide
theorem off_sq_2 (c : Dev nD) : k0_off10 c = planeOff c 2 1 := by revert c; decide
theorem off_sum_3 (c : Dev nD) : k0_off13 c = planeOff c 3 0 := by revert c; decide
theorem off_sq_3 (c : Dev nD) : k0_off14 c = planeOff c 3 1 := by revert c; decide
theorem off_recv_0 (c : Dev nD) (k : Fin 7) : k0_off17 c (BitVec.ofNat 32 (1 + k.val)) = ![(peer c k).val, (0 : Fin 4).val] := by revert c k; decide
theorem off_recv_1 (c : Dev nD) (k : Fin 7) : k0_off19 c (BitVec.ofNat 32 (1 + k.val)) = ![(peer c k).val, (1 : Fin 4).val] := by revert c k; decide
theorem off_recv_2 (c : Dev nD) (k : Fin 7) : k0_off21 c (BitVec.ofNat 32 (1 + k.val)) = ![(peer c k).val, (2 : Fin 4).val] := by revert c k; decide
theorem off_recv_3 (c : Dev nD) (k : Fin 7) : k0_off23 c (BitVec.ofNat 32 (1 + k.val)) = ![(peer c k).val, (3 : Fin 4).val] := by revert c k; decide

/-! ## Sequencing: a part is run to an arbitrary postcondition, of which only the rest of the program is known -/

theorem seq {α β : Type} (c : Dev nD) (p : PT (F := F) α) (k : α → PT (F := F) β) (Q : β → sProp 𝕄) (P : sProp 𝕄)
    (h : ∀ Q' : α → sProp 𝕄, (∀ a, Q' a = WP c (k a) Q) → Entails' P (WP c p Q')) : Entails' P (WP c (p >>= k) Q) :=
  BIBase.Entails.trans (h (fun a => WP c (k a) Q) fun _ => rfl) (Entails.of_eq (wp_bind _ _ _ _ _ _).symm)

/-- A part's end: the rest of the program is next. -/
theorem fin {α β : Type} {c : Dev nD} {a : α} {Q' : α → sProp 𝕄} {k : α → PT (F := F) β} {Q : β → sProp 𝕄} {P : sProp 𝕄}
    (hQ : ∀ a, Q' a = WP c (k a) Q) (h : Entails' P (WP c (k a) Q)) : Entails' P (WP c (.ret a) Q') :=
  BIBase.Entails.trans h ((Entails.of_eq (hQ a).symm).trans fupd_intro)

/-- The end of the program. -/
theorem fin_end {α : Type} {c : Dev nD} {a : α} {Q : α → sProp 𝕄} {P : sProp 𝕄} (h : Entails' P (Q a)) : Entails' P (WP c (.ret a) Q) :=
  BIBase.Entails.trans h fupd_intro

/-! ## What a device holds at the start -/

/-- The other devices' slots the barrier brings, by the transfer that lands in each. -/
theorem slots_land (c : Dev nD) : (bigSep Finset.univ fun k => slotsOf (F := F) (peer c k) c) ⊢ chain (landSlot (F := F) c) allJobs := by
  rw [← chain_univ (landSlot (F := F) c) allJobs allJobs_nodup mem_allJobs, bigSep_univ_prod, bigSep_univ_comm]
  exact Entails.of_eq (bigSep_congr fun k _ => by unfold slotsOf landSlot; rfl)

/-- The gamma and the beta blocks, staged. -/
def gPts (c : Dev nD) : sProp 𝕄 := iprop(((c : Thread nD τ).loc cc0_stg0_0) ↦[Finset.univ]{fullShare} gam m c)
def bPts (c : Dev nD) : sProp 𝕄 := iprop(((c : Thread nD τ).loc cc0_stg1_0) ↦[Finset.univ]{fullShare} bet m c)

theorem gamma_load (c : Dev nD) {inb : ∀ a, (![0] : Fin 1 → ℕ) a + S1024.size a ≤ S1024.size a}
    {hl : gV.view.LoadsAt (Rect.unit (s := S1024) ![0] S1024.size inb).toLoadRect}
    {α : Type} {Q : α → sProp 𝕄} {kt : Vec F S1024 .f32 → PT (F := F) α} :
    gPts m c ⊢ iprop((gPts m c -∗ WP c (kt (gam m c)) Q) -∗ WP c (.op (.load gV (Rect.unit (s := S1024) ![0] S1024.size inb).toLoadRect hl) kt) Q) := by
  have h : View.readAt (Elt F) gV.view (Rect.unit (s := S1024) ![0] S1024.size inb).toLoadRect (gam m c) = gam m c := by
    funext j
    exact congrArg (gam m c) (funext fun a => Fin.ext (by match a with | ⟨0, _⟩ => exact (ValueKit.rect_emb_unit_val _ _ _ _ _).trans (Nat.zero_add _)))
  have hw : gPts m c ⊢ iprop((gPts m c -∗ WP c (kt (View.readAt (Elt F) gV.view (Rect.unit (s := S1024) ![0] S1024.size inb).toLoadRect (gam m c))) Q)
      -∗ WP c (.op (.load gV (Rect.unit (s := S1024) ![0] S1024.size inb).toLoadRect hl) kt) Q) :=
    wp_load_rect 𝒱₀ (c : Thread nD τ) none Set.univ (m := gV) (r := Rect.unit (s := S1024) ![0] S1024.size inb) (Finset.subset_univ _)
  rw [h] at hw
  exact hw

theorem beta_load (c : Dev nD) {inb : ∀ a, (![0] : Fin 1 → ℕ) a + S1024.size a ≤ S1024.size a}
    {hl : bV.view.LoadsAt (Rect.unit (s := S1024) ![0] S1024.size inb).toLoadRect}
    {α : Type} {Q : α → sProp 𝕄} {kt : Vec F S1024 .f32 → PT (F := F) α} :
    bPts m c ⊢ iprop((bPts m c -∗ WP c (kt (bet m c)) Q) -∗ WP c (.op (.load bV (Rect.unit (s := S1024) ![0] S1024.size inb).toLoadRect hl) kt) Q) := by
  have h : View.readAt (Elt F) bV.view (Rect.unit (s := S1024) ![0] S1024.size inb).toLoadRect (bet m c) = bet m c := by
    funext j
    exact congrArg (bet m c) (funext fun a => Fin.ext (by match a with | ⟨0, _⟩ => exact (ValueKit.rect_emb_unit_val _ _ _ _ _).trans (Nat.zero_add _)))
  have hw : bPts m c ⊢ iprop((bPts m c -∗ WP c (kt (View.readAt (Elt F) bV.view (Rect.unit (s := S1024) ![0] S1024.size inb).toLoadRect (bet m c))) Q)
      -∗ WP c (.op (.load bV (Rect.unit (s := S1024) ![0] S1024.size inb).toLoadRect hl) kt) Q) :=
    wp_load_rect 𝒱₀ (c : Thread nD τ) none Set.univ (m := bV) (r := Rect.unit (s := S1024) ![0] S1024.size inb) (Finset.subset_univ _)
  rw [h] at hw
  exact hw

/-- A slot has two planes. -/
theorem plane_cases (i : S8x4x2x8x128.Idx) : (i 2).val = (0 : Fin 2).val ∨ (i 2).val = (1 : Fin 2).val := by
  have h : (i 2).val < 2 := (i 2).isLt
  show (i 2).val = 0 ∨ (i 2).val = 1
  omega

/-! ## The state before and after -/

abbrev blocks : List (Fin 4) := [0, 1, 2, 3]
abbrev outSlots : List (Fin 2) := [0, 1]
/-- The transfers, the last first. -/
abbrev allJobsR : List (Fin 4 × Fin 7) :=
  [(3, 6), (3, 5), (3, 4), (3, 3), (3, 2), (3, 1), (3, 0), (2, 6), (2, 5), (2, 4), (2, 3), (2, 2), (2, 1), (2, 0),
   (1, 6), (1, 5), (1, 4), (1, 3), (1, 2), (1, 1), (1, 0), (0, 6), (0, 5), (0, 4), (0, 3), (0, 2), (0, 1), (0, 0)]
theorem allJobsR_nodup : allJobsR.Nodup := by decide
theorem mem_allJobsR : ∀ j, j ∈ allJobsR := by decide

/-- A device's position on one of its send cells. -/
def sendPos (c : Dev nD) (j : Fin 4 × Fin 7) : sProp 𝕄 := atPos ER (sendC c j.1 j.2) 0 ∅ 0

/-- The credits of all the transfers sent, with the positions, are what their departures are waited for with. -/
theorem done_start (c : Dev nD) : chain (sendCred (F := F) c) allJobsR ⊢ iprop(chain (sendPos (F := F) c) allJobs -∗ doneSt m c allJobs []) := by
  unfold doneSt
  rw [chain_perm (sendCred (F := F) c) allJobsR allJobs allJobsR_nodup allJobs_nodup (by decide), chain_nil,
    show sendItem (F := F) c = fun j => iprop(sendCred (F := F) c j ∗ sendPos (F := F) c j) from rfl]
  iintro H1 H2
  isplitl [H1 H2]
  · iapply (chain_sep (sendCred (F := F) c) (sendPos (F := F) c) allJobs).2
    isplitl [H1]; · iexact H1
    iexact H2
  · iempintro

theorem send_start (c : Dev nD) : (bigSep Finset.univ fun k => slotsOf (F := F) (peer c k) c) ⊢ iprop(chain (sendTok (F := F) c) allJobs -∗ sendSt (F := F) c allJobs []) := by
  unfold sendSt
  rw [chain_nil]
  iintro H1 H2
  isplitl [H2]; · iexact H2
  isplitl [H1]; · iapply (slots_land c); iexact H1
  iempintro

theorem recv_start (c : Dev nD) : chain (recvItem (F := F) c) allJobs ⊢ recvSt m c allJobs [] [] := by
  unfold recvSt
  rw [chain_nil, chain_nil]
  iintro H
  isplitl [H]; · iexact H
  isplitl <;> iempintro

/-- A row block's arrivals, taken out. -/
theorem recv_take (c : Dev nD) (l d z : List (Fin 4 × Fin 7)) : recvSt m c l d z ⊢ iprop(recvSt m c l [] z ∗ chain (landed m c) d) := by
  unfold recvSt
  rw [chain_nil]
  iintro ⟨H1, H2, H3⟩
  isplitl [H1 H3]
  · isplitl [H1]; · iexact H1
    isplitr; · iempintro
    iexact H3
  iexact H2

theorem send_end (c : Dev nD) (d : List (Fin 4 × Fin 7)) : sendSt (F := F) c [] d ⊢ chain (sendCred (F := F) c) d := by
  unfold sendSt
  iintro ⟨-, -, H⟩
  iexact H

/-- A device's eight slots of a row block, its own in what is left of it. -/
def colEnd (c : Dev nD) (b : Fin 4) : sProp 𝕄 := iprop(slotPts c c b (kept 7) (commAll m) ∗ chain (landed m c) (jobsR b))

/-- What a device holds when the body begins, the debt aside. -/
def startSt (c : Dev nD) : sProp 𝕄 :=
  iprop(chain (sigItem (F := F) c) allPeers ∗ barItem (F := F) c ∗ chain (sendTok (F := F) c) allJobs ∗ chain (sendPos (F := F) c) allJobs
    ∗ chain (recvItem (F := F) c) allJobs ∗ chain (inItem m c) blocks ∗ chain (fun b => iprop(∃ f, slotPts (F := F) c c b fullShare f)) blocks
    ∗ chain (yFree (F := F) c) outSlots ∗ chain (outZero (F := F) c) outSlots ∗ chain (fun b => iprop(∃ f, yHrow (F := F) c b f)) blocks
    ∗ gPts m c ∗ bPts m c)

/-- What it holds when the body ends. -/
def endSt (c : Dev nD) : sProp 𝕄 :=
  iprop(semVal (barC c) 0 ∗ doneSt m c [] allJobsR ∗ recvSt m c [] [] allJobsR ∗ chain (inDone m c) blocks ∗ chain (fun b => xVrow c b (xC m c)) blocks
    ∗ chain (colEnd m c) blocks ∗ chain (yFree (F := F) c) outSlots ∗ chain (outZero (F := F) c) outSlots
    ∗ chain (fun b => yHrow c b (outF m c)) blocks ∗ gPts m c ∗ bPts m c)

theorem owes_sends (c : Dev nD) : owesA (F := F) c (oweB c allJobs []) ⊢ owesA c (oweS c allJobs) := Entails.of_eq rfl
theorem owes_none (c : Dev nD) : owesA (F := F) c (oweS c []) ⊢ owesA c 0 := Entails.of_eq rfl

/-! ## The payloads of the four row blocks are one expression -/

/-- The selector of a row's place in its group of 128. -/
abbrev selL : FVec F S1024x128 .f32 := k0_pay16

variable (K : Dev nD × Cell → ℕ)

abbrev theBody : PT (F := F) PUnit := cc0_body (Memref.whole main_arg0) (Memref.isWhole_whole _) gV (Memref.isWhole_whole _) bV (Memref.isWhole_whole _)
  (Memref.whole main_v1) (Memref.isWhole_whole _) (Memref.whole cc0_scratch0) (Memref.isWhole_whole _) (Memref.whole cc0_scratch1) (Memref.isWhole_whole _)
  (Memref.whole cc0_scratch2) (Memref.isWhole_whole _) cc0_scratch3 cc0_scratch4 cc0_scratch5 cc0_scratch6

set_option maxHeartbeats 4000000 in
theorem run_body (c : Dev nD) (Q : PUnit → sProp 𝕄) :
    ctx m K ⊢ iprop(owesA c (owes₀ c) -∗ startSt m c -∗ (owesA c 0 -∗ endSt m c -∗ Q ⟨⟩) -∗ WP c theBody Q) := by
  unfold owes₀ theBody startSt endSt colEnd
  simp only [chain_cons (inItem m c), chain_cons (inDone m c), chain_cons (fun b => iprop(∃ f, slotPts (F := F) c c b fullShare f)),
    chain_cons (yFree (F := F) c), chain_cons (outZero (F := F) c), chain_cons (fun b => iprop(∃ f, yHrow (F := F) c b f)), chain_nil]
  iintro #HC HO ⟨Hsig, Hbar, Htok, Hpos, Hrc, ⟨Hi0, Hi1, Hi2, Hi3, -⟩, ⟨Hw0, Hw1, Hw2, Hw3, -⟩, ⟨Hy0, Hy1, -⟩, ⟨Hz0, Hz1, -⟩, ⟨Hr0, Hr1, Hr2, Hr3, -⟩, HG, HB⟩ HQ
  ihave Hw0 := (own_any m c 0) $$ Hw0
  ihave Hw1 := (own_any m c 1) $$ Hw1
  ihave Hw2 := (own_any m c 2) $$ Hw2
  ihave Hw3 := (own_any m c 3) $$ Hw3
  ihave Hrc := (recv_start m c) $$ Hrc
  rw [cc0_body_eq_skeleton]; unfold cc0_body_skel
  refine seq _ _ _ _ _ fun Q₀ hQ₀ => ?_
  rw [k0_part60_eq_skeleton]; unfold k0_part60_skel
  refine seq _ _ _ _ _ fun Q' hQ' => ?_
  rw [k0_part1_eq_skeleton]; unfold k0_part1_skel
  simp only [semSignalWord, semWaitWord, Prog.lift, Prog.bind_op, Prog.bind_ret, Prog.pure_eq_ret, wp_deviceId]
  iapply (in_step m c 0 _ _ _ _ rfl rfl _ rfl) $$ Hi0; iintro Hi0
  iapply (in_step m c 1 _ _ _ _ rfl rfl _ rfl) $$ Hi1; iintro Hi1
  iapply (in_step m c 2 _ _ _ _ rfl rfl _ rfl) $$ Hi2; iintro Hi2
  iapply (in_step m c 3 _ _ _ _ rfl rfl _ rfl) $$ Hi3; iintro Hi3
  refine fin hQ' ?_
  clear hQ' Q'
  refine seq _ _ _ _ _ fun Q' hQ' => ?_
  rw [k0_part2_eq_skeleton]; unfold k0_part2_skel
  simp only [semSignalWord, semWaitWord, Prog.lift, Prog.bind_op, Prog.bind_ret, Prog.pure_eq_ret, wp_deviceId]
  iapply (signal_step m K c _ 0 (dev_1 c) _ _ _ rfl) $$ HC Hsig HO; iintro Hsig HO
  iapply (signal_step m K c _ 1 (dev_2 c) _ _ _ rfl) $$ HC Hsig HO; iintro Hsig HO
  iapply (signal_step m K c _ 2 (dev_3 c) _ _ _ rfl) $$ HC Hsig HO; iintro Hsig HO
  refine fin hQ' ?_
  clear hQ' Q'
  refine seq _ _ _ _ _ fun Q' hQ' => ?_
  rw [k0_part3_eq_skeleton]; unfold k0_part3_skel
  simp only [semSignalWord, semWaitWord, Prog.lift, Prog.bind_op, Prog.bind_ret, Prog.pure_eq_ret, wp_deviceId]
  iapply (signal_step m K c _ 3 (dev_4 c) _ _ _ rfl) $$ HC Hsig HO; iintro Hsig HO
  iapply (signal_step m K c _ 4 (dev_5 c) _ _ _ rfl) $$ HC Hsig HO; iintro Hsig HO
  refine fin hQ' ?_
  clear hQ' Q'
  refine seq _ _ _ _ _ fun Q' hQ' => ?_
  rw [k0_part4_eq_skeleton]; unfold k0_part4_skel
  simp only [semSignalWord, semWaitWord, Prog.lift, Prog.bind_op, Prog.bind_ret, Prog.pure_eq_ret, wp_deviceId]
  iapply (signal_step m K c _ 5 (dev_6 c) _ _ _ rfl) $$ HC Hsig HO; iintro Hsig HO
  iapply (signal_step m K c _ 6 (dev_7 c) _ _ _ rfl) $$ HC Hsig HO; iintro Hsig HO
  ihave HO := (owes_sends c) $$ HO
  iapply (bar_step m K c _ _ rfl) $$ HC Hbar HO; iintro Hland Hbar HO
  ihave Hst := (send_start c) $$ Hland Htok
  iapply (in_wait m K c 0 _ _ rfl) $$ HC Hi0 HO; iintro Hx0 Hi0 HO
  iapply (row_load m c 0 _ _ rfl) $$ Hx0; iintro Hx0
  refine fin hQ' ?_
  clear hQ' Q'
  refine seq _ _ _ _ _ fun Q' hQ' => ?_
  rw [k0_part5_eq_skeleton]; unfold k0_part5_skel
  simp only [semSignalWord, semWaitWord, Prog.lift, Prog.bind_op, Prog.bind_ret, Prog.pure_eq_ret, wp_deviceId]
  iapply (own_load m c 0 0 _ _ _ (off_sum_0 c)) $$ Hw0; iintro %v Hw0
  iapply (own_store m c 0 0 _ (fun i => (i 2).val = (0 : Fin 2).val) (fun i h => Or.inr h) _ _ (off_sum_0 c) rfl) $$ Hw0; iintro Hw0
  iapply (own_load m c 0 1 _ _ _ (off_sq_0 c)) $$ Hw0; iintro %v Hw0
  iapply (own_store m c 0 1 _ (fun _ => True) (fun i _ => plane_cases i) _ _ (off_sq_0 c) rfl) $$ Hw0; iintro Hw0
  ihave Hw0 := (own_full m c 0) $$ Hw0
  iapply (send_step m K c _ 0 0 (dev_1 c) 0 1 rfl rfl _ _ _ _ _ _ (off_slot_0 c) (off_slot_0 c) _ _ rfl (recvS_eq _ _ c 0 (off_own_0 c))) $$ HC Hst HO Hw0; iintro Hst HO Hw0
  refine fin hQ' ?_
  clear hQ' Q'
  refine seq _ _ _ _ _ fun Q' hQ' => ?_
  rw [k0_part6_eq_skeleton]; unfold k0_part6_skel
  simp only [semSignalWord, semWaitWord, Prog.lift, Prog.bind_op, Prog.bind_ret, Prog.pure_eq_ret, wp_deviceId]
  iapply (send_step m K c _ 0 1 (dev_2 c) 1 2 rfl rfl _ _ _ _ _ _ (off_slot_0 c) (off_slot_0 c) _ _ rfl (recvS_eq _ _ c 0 (off_own_0 c))) $$ HC Hst HO Hw0; iintro Hst HO Hw0
  refine fin hQ' ?_
  clear hQ' Q'
  refine seq _ _ _ _ _ fun Q' hQ' => ?_
  rw [k0_part7_eq_skeleton]; unfold k0_part7_skel
  simp only [semSignalWord, semWaitWord, Prog.lift, Prog.bind_op, Prog.bind_ret, Prog.pure_eq_ret, wp_deviceId]
  iapply (send_step m K c _ 0 2 (dev_3 c) 2 3 rfl rfl _ _ _ _ _ _ (off_slot_0 c) (off_slot_0 c) _ _ rfl (recvS_eq _ _ c 0 (off_own_0 c))) $$ HC Hst HO Hw0; iintro Hst HO Hw0
  refine fin hQ' ?_
  clear hQ' Q'
  refine seq _ _ _ _ _ fun Q' hQ' => ?_
  rw [k0_part8_eq_skeleton]; unfold k0_part8_skel
  simp only [semSignalWord, semWaitWord, Prog.lift, Prog.bind_op, Prog.bind_ret, Prog.pure_eq_ret, wp_deviceId]
  iapply (send_step m K c _ 0 3 (dev_4 c) 3 4 rfl rfl _ _ _ _ _ _ (off_slot_0 c) (off_slot_0 c) _ _ rfl (recvS_eq _ _ c 0 (off_own_0 c))) $$ HC Hst HO Hw0; iintro Hst HO Hw0
  iapply (send_step m K c _ 0 4 (dev_5 c) 4 5 rfl rfl _ _ _ _ _ _ (off_slot_0 c) (off_slot_0 c) _ _ rfl (recvS_eq _ _ c 0 (off_own_0 c))) $$ HC Hst HO Hw0; iintro Hst HO Hw0
  refine fin hQ' ?_
  clear hQ' Q'
  refine seq _ _ _ _ _ fun Q' hQ' => ?_
  rw [k0_part9_eq_skeleton]; unfold k0_part9_skel
  simp only [semSignalWord, semWaitWord, Prog.lift, Prog.bind_op, Prog.bind_ret, Prog.pure_eq_ret, wp_deviceId]
  iapply (send_step m K c _ 0 5 (dev_6 c) 5 6 rfl rfl _ _ _ _ _ _ (off_slot_0 c) (off_slot_0 c) _ _ rfl (recvS_eq _ _ c 0 (off_own_0 c))) $$ HC Hst HO Hw0; iintro Hst HO Hw0
  refine fin hQ' ?_
  clear hQ' Q'
  refine seq _ _ _ _ _ fun Q' hQ' => ?_
  rw [k0_part10_eq_skeleton]; unfold k0_part10_skel
  simp only [semSignalWord, semWaitWord, Prog.lift, Prog.bind_op, Prog.bind_ret, Prog.pure_eq_ret, wp_deviceId]
  iapply (send_step m K c _ 0 6 (dev_7 c) 6 7 rfl rfl _ _ _ _ _ _ (off_slot_0 c) (off_slot_0 c) _ _ rfl (recvS_eq _ _ c 0 (off_own_0 c))) $$ HC Hst HO Hw0; iintro Hst HO Hw0
  iapply (in_wait m K c 1 _ _ rfl) $$ HC Hi1 HO; iintro Hx1 Hi1 HO
  iapply (row_load m c 1 _ _ rfl) $$ Hx1; iintro Hx1
  iapply (own_load m c 1 0 _ _ _ (off_sum_1 c)) $$ Hw1; iintro %v Hw1
  iapply (own_store m c 1 0 _ (fun i => (i 2).val = (0 : Fin 2).val) (fun i h => Or.inr h) _ _ (off_sum_1 c) rfl) $$ Hw1; iintro Hw1
  iapply (own_load m c 1 1 _ _ _ (off_sq_1 c)) $$ Hw1; iintro %v Hw1
  iapply (own_store m c 1 1 _ (fun _ => True) (fun i _ => plane_cases i) _ _ (off_sq_1 c) rfl) $$ Hw1; iintro Hw1
  ihave Hw1 := (own_full m c 1) $$ Hw1
  refine fin hQ' ?_
  clear hQ' Q'
  refine seq _ _ _ _ _ fun Q' hQ' => ?_
  rw [k0_part11_eq_skeleton]; unfold k0_part11_skel
  simp only [semSignalWord, semWaitWord, Prog.lift, Prog.bind_op, Prog.bind_ret, Prog.pure_eq_ret, wp_deviceId]
  iapply (send_step m K c _ 1 0 (dev_1 c) 0 1 rfl rfl _ _ _ _ _ _ (off_slot_1 c) (off_slot_1 c) _ _ rfl (recvS_eq _ _ c 1 (off_own_1 c))) $$ HC Hst HO Hw1; iintro Hst HO Hw1
  refine fin hQ' ?_
  clear hQ' Q'
  refine seq _ _ _ _ _ fun Q' hQ' => ?_
  rw [k0_part12_eq_skeleton]; unfold k0_part12_skel
  simp only [semSignalWord, semWaitWord, Prog.lift, Prog.bind_op, Prog.bind_ret, Prog.pure_eq_ret, wp_deviceId]
  iapply (send_step m K c _ 1 1 (dev_2 c) 1 2 rfl rfl _ _ _ _ _ _ (off_slot_1 c) (off_slot_1 c) _ _ rfl (recvS_eq _ _ c 1 (off_own_1 c))) $$ HC Hst HO Hw1; iintro Hst HO Hw1
  iapply (send_step m K c _ 1 2 (dev_3 c) 2 3 rfl rfl _ _ _ _ _ _ (off_slot_1 c) (off_slot_1 c) _ _ rfl (recvS_eq _ _ c 1 (off_own_1 c))) $$ HC Hst HO Hw1; iintro Hst HO Hw1
  refine fin hQ' ?_
  clear hQ' Q'
  refine seq _ _ _ _ _ fun Q' hQ' => ?_
  rw [k0_part13_eq_skeleton]; unfold k0_part13_skel
  simp only [semSignalWord, semWaitWord, Prog.lift, Prog.bind_op, Prog.bind_ret, Prog.pure_eq_ret, wp_deviceId]
  iapply (send_step m K c _ 1 3 (dev_4 c) 3 4 rfl rfl _ _ _ _ _ _ (off_slot_1 c) (off_slot_1 c) _ _ rfl (recvS_eq _ _ c 1 (off_own_1 c))) $$ HC Hst HO Hw1; iintro Hst HO Hw1
  refine fin hQ' ?_
  clear hQ' Q'
  refine seq _ _ _ _ _ fun Q' hQ' => ?_
  rw [k0_part14_eq_skeleton]; unfold k0_part14_skel
  simp only [semSignalWord, semWaitWord, Prog.lift, Prog.bind_op, Prog.bind_ret, Prog.pure_eq_ret, wp_deviceId]
  iapply (send_step m K c _ 1 4 (dev_5 c) 4 5 rfl rfl _ _ _ _ _ _ (off_slot_1 c) (off_slot_1 c) _ _ rfl (recvS_eq _ _ c 1 (off_own_1 c))) $$ HC Hst HO Hw1; iintro Hst HO Hw1
  iapply (send_step m K c _ 1 5 (dev_6 c) 5 6 rfl rfl _ _ _ _ _ _ (off_slot_1 c) (off_slot_1 c) _ _ rfl (recvS_eq _ _ c 1 (off_own_1 c))) $$ HC Hst HO Hw1; iintro Hst HO Hw1
  refine fin hQ' ?_
  clear hQ' Q'
  refine seq _ _ _ _ _ fun Q' hQ' => ?_
  rw [k0_part15_eq_skeleton]; unfold k0_part15_skel
  simp only [semSignalWord, semWaitWord, Prog.lift, Prog.bind_op, Prog.bind_ret, Prog.pure_eq_ret, wp_deviceId]
  iapply (send_step m K c _ 1 6 (dev_7 c) 6 7 rfl rfl _ _ _ _ _ _ (off_slot_1 c) (off_slot_1 c) _ _ rfl (recvS_eq _ _ c 1 (off_own_1 c))) $$ HC Hst HO Hw1; iintro Hst HO Hw1
  iapply (in_wait m K c 2 _ _ rfl) $$ HC Hi2 HO; iintro Hx2 Hi2 HO
  iapply (row_load m c 2 _ _ rfl) $$ Hx2; iintro Hx2
  refine fin hQ' ?_
  clear hQ' Q'
  refine seq _ _ _ _ _ fun Q' hQ' => ?_
  rw [k0_part16_eq_skeleton]; unfold k0_part16_skel
  simp only [semSignalWord, semWaitWord, Prog.lift, Prog.bind_op, Prog.bind_ret, Prog.pure_eq_ret, wp_deviceId]
  iapply (own_load m c 2 0 _ _ _ (off_sum_2 c)) $$ Hw2; iintro %v Hw2
  iapply (own_store m c 2 0 _ (fun i => (i 2).val = (0 : Fin 2).val) (fun i h => Or.inr h) _ _ (off_sum_2 c) rfl) $$ Hw2; iintro Hw2
  iapply (own_load m c 2 1 _ _ _ (off_sq_2 c)) $$ Hw2; iintro %v Hw2
  iapply (own_store m c 2 1 _ (fun _ => True) (fun i _ => plane_cases i) _ _ (off_sq_2 c) rfl) $$ Hw2; iintro Hw2
  ihave Hw2 := (own_full m c 2) $$ Hw2
  refine fin hQ' ?_
  clear hQ' Q'
  refine seq _ _ _ _ _ fun Q' hQ' => ?_
  rw [k0_part17_eq_skeleton]; unfold k0_part17_skel
  simp only [semSignalWord, semWaitWord, Prog.lift, Prog.bind_op, Prog.bind_ret, Prog.pure_eq_ret, wp_deviceId]
  iapply (send_step m K c _ 2 0 (dev_1 c) 0 1 rfl rfl _ _ _ _ _ _ (off_slot_2 c) (off_slot_2 c) _ _ rfl (recvS_eq _ _ c 2 (off_own_2 c))) $$ HC Hst HO Hw2; iintro Hst HO Hw2
  iapply (send_step m K c _ 2 1 (dev_2 c) 1 2 rfl rfl _ _ _ _ _ _ (off_slot_2 c) (off_slot_2 c) _ _ rfl (recvS_eq _ _ c 2 (off_own_2 c))) $$ HC Hst HO Hw2; iintro Hst HO Hw2
  refine fin hQ' ?_
  clear hQ' Q'
  refine seq _ _ _ _ _ fun Q' hQ' => ?_
  rw [k0_part18_eq_skeleton]; unfold k0_part18_skel
  simp only [semSignalWord, semWaitWord, Prog.lift, Prog.bind_op, Prog.bind_ret, Prog.pure_eq_ret, wp_deviceId]
  iapply (send_step m K c _ 2 2 (dev_3 c) 2 3 rfl rfl _ _ _ _ _ _ (off_slot_2 c) (off_slot_2 c) _ _ rfl (recvS_eq _ _ c 2 (off_own_2 c))) $$ HC Hst HO Hw2; iintro Hst HO Hw2
  refine fin hQ' ?_
  clear hQ' Q'
  refine seq _ _ _ _ _ fun Q' hQ' => ?_
  rw [k0_part19_eq_skeleton]; unfold k0_part19_skel
  simp only [semSignalWord, semWaitWord, Prog.lift, Prog.bind_op, Prog.bind_ret, Prog.pure_eq_ret, wp_deviceId]
  iapply (send_step m K c _ 2 3 (dev_4 c) 3 4 rfl rfl _ _ _ _ _ _ (off_slot_2 c) (off_slot_2 c) _ _ rfl (recvS_eq _ _ c 2 (off_own_2 c))) $$ HC Hst HO Hw2; iintro Hst HO Hw2
  iapply (send_step m K c _ 2 4 (dev_5 c) 4 5 rfl rfl _ _ _ _ _ _ (off_slot_2 c) (off_slot_2 c) _ _ rfl (recvS_eq _ _ c 2 (off_own_2 c))) $$ HC Hst HO Hw2; iintro Hst HO Hw2
  refine fin hQ' ?_
  clear hQ' Q'
  refine seq _ _ _ _ _ fun Q' hQ' => ?_
  rw [k0_part20_eq_skeleton]; unfold k0_part20_skel
  simp only [semSignalWord, semWaitWord, Prog.lift, Prog.bind_op, Prog.bind_ret, Prog.pure_eq_ret, wp_deviceId]
  iapply (send_step m K c _ 2 5 (dev_6 c) 5 6 rfl rfl _ _ _ _ _ _ (off_slot_2 c) (off_slot_2 c) _ _ rfl (recvS_eq _ _ c 2 (off_own_2 c))) $$ HC Hst HO Hw2; iintro Hst HO Hw2
  refine fin hQ' ?_
  clear hQ' Q'
  refine seq _ _ _ _ _ fun Q' hQ' => ?_
  rw [k0_part21_eq_skeleton]; unfold k0_part21_skel
  simp only [semSignalWord, semWaitWord, Prog.lift, Prog.bind_op, Prog.bind_ret, Prog.pure_eq_ret, wp_deviceId]
  iapply (send_step m K c _ 2 6 (dev_7 c) 6 7 rfl rfl _ _ _ _ _ _ (off_slot_2 c) (off_slot_2 c) _ _ rfl (recvS_eq _ _ c 2 (off_own_2 c))) $$ HC Hst HO Hw2; iintro Hst HO Hw2
  iapply (in_wait m K c 3 _ _ rfl) $$ HC Hi3 HO; iintro Hx3 Hi3 HO
  iapply (row_load m c 3 _ _ rfl) $$ Hx3; iintro Hx3
  iapply (own_load m c 3 0 _ _ _ (off_sum_3 c)) $$ Hw3; iintro %v Hw3
  iapply (own_store m c 3 0 _ (fun i => (i 2).val = (0 : Fin 2).val) (fun i h => Or.inr h) _ _ (off_sum_3 c) rfl) $$ Hw3; iintro Hw3
  iapply (own_load m c 3 1 _ _ _ (off_sq_3 c)) $$ Hw3; iintro %v Hw3
  iapply (own_store m c 3 1 _ (fun _ => True) (fun i _ => plane_cases i) _ _ (off_sq_3 c) rfl) $$ Hw3; iintro Hw3
  ihave Hw3 := (own_full m c 3) $$ Hw3
  refine fin hQ' ?_
  clear hQ' Q'
  refine seq _ _ _ _ _ fun Q' hQ' => ?_
  rw [k0_part22_eq_skeleton]; unfold k0_part22_skel
  simp only [semSignalWord, semWaitWord, Prog.lift, Prog.bind_op, Prog.bind_ret, Prog.pure_eq_ret, wp_deviceId]
  iapply (send_step m K c _ 3 0 (dev_1 c) 0 1 rfl rfl _ _ _ _ _ _ (off_slot_3 c) (off_slot_3 c) _ _ rfl (recvS_eq _ _ c 3 (off_own_3 c))) $$ HC Hst HO Hw3; iintro Hst HO Hw3
  refine fin hQ' ?_
  clear hQ' Q'
  refine seq _ _ _ _ _ fun Q' hQ' => ?_
  rw [k0_part23_eq_skeleton]; unfold k0_part23_skel
  simp only [semSignalWord, semWaitWord, Prog.lift, Prog.bind_op, Prog.bind_ret, Prog.pure_eq_ret, wp_deviceId]
  iapply (send_step m K c _ 3 1 (dev_2 c) 1 2 rfl rfl _ _ _ _ _ _ (off_slot_3 c) (off_slot_3 c) _ _ rfl (recvS_eq _ _ c 3 (off_own_3 c))) $$ HC Hst HO Hw3; iintro Hst HO Hw3
  iapply (send_step m K c _ 3 2 (dev_3 c) 2 3 rfl rfl _ _ _ _ _ _ (off_slot_3 c) (off_slot_3 c) _ _ rfl (recvS_eq _ _ c 3 (off_own_3 c))) $$ HC Hst HO Hw3; iintro Hst HO Hw3
  refine fin hQ' ?_
  clear hQ' Q'
  refine seq _ _ _ _ _ fun Q' hQ' => ?_
  rw [k0_part24_eq_skeleton]; unfold k0_part24_skel
  simp only [semSignalWord, semWaitWord, Prog.lift, Prog.bind_op, Prog.bind_ret, Prog.pure_eq_ret, wp_deviceId]
  iapply (send_step m K c _ 3 3 (dev_4 c) 3 4 rfl rfl _ _ _ _ _ _ (off_slot_3 c) (off_slot_3 c) _ _ rfl (recvS_eq _ _ c 3 (off_own_3 c))) $$ HC Hst HO Hw3; iintro Hst HO Hw3
  refine fin hQ' ?_
  clear hQ' Q'
  refine seq _ _ _ _ _ fun Q' hQ' => ?_
  rw [k0_part25_eq_skeleton]; unfold k0_part25_skel
  simp only [semSignalWord, semWaitWord, Prog.lift, Prog.bind_op, Prog.bind_ret, Prog.pure_eq_ret, wp_deviceId]
  iapply (send_step m K c _ 3 4 (dev_5 c) 4 5 rfl rfl _ _ _ _ _ _ (off_slot_3 c) (off_slot_3 c) _ _ rfl (recvS_eq _ _ c 3 (off_own_3 c))) $$ HC Hst HO Hw3; iintro Hst HO Hw3
  refine fin hQ' ?_
  clear hQ' Q'
  refine seq _ _ _ _ _ fun Q' hQ' => ?_
  rw [k0_part26_eq_skeleton]; unfold k0_part26_skel
  simp only [semSignalWord, semWaitWord, Prog.lift, Prog.bind_op, Prog.bind_ret, Prog.pure_eq_ret, wp_deviceId]
  iapply (send_step m K c _ 3 5 (dev_6 c) 5 6 rfl rfl _ _ _ _ _ _ (off_slot_3 c) (off_slot_3 c) _ _ rfl (recvS_eq _ _ c 3 (off_own_3 c))) $$ HC Hst HO Hw3; iintro Hst HO Hw3
  iapply (send_step m K c _ 3 6 (dev_7 c) 6 7 rfl rfl _ _ _ _ _ _ (off_slot_3 c) (off_slot_3 c) _ _ rfl (recvS_eq _ _ c 3 (off_own_3 c))) $$ HC Hst HO Hw3; iintro Hst HO Hw3
  refine fin hQ' ?_
  clear hQ' Q'
  refine seq _ _ _ _ _ fun Q' hQ' => ?_
  rw [k0_part27_eq_skeleton]; unfold k0_part27_skel
  simp only [semSignalWord, semWaitWord, Prog.lift, Prog.bind_op, Prog.bind_ret, Prog.pure_eq_ret, wp_deviceId]
  ihave HO := (owes_none c) $$ HO
  iapply (gamma_load m c) $$ HG; iintro HG
  iapply (beta_load m c) $$ HB; iintro HB
  refine fin hQ' ?_
  clear hQ' Q'
  refine seq _ _ _ _ _ fun Q' hQ' => ?_
  rw [k0_part28_eq_skeleton]; unfold k0_part28_skel
  simp only [semSignalWord, semWaitWord, Prog.lift, Prog.bind_op, Prog.bind_ret, Prog.pure_eq_ret, wp_deviceId]
  iapply (recv_step m K c 0 0 _ _ _ _ (recvS_eq _ _ (peer c 0) 0 (off_recv_0 c 0))) $$ HC Hrc HO; iintro Hrc HO
  refine fin hQ' ?_
  clear hQ' Q'
  refine seq _ _ _ _ _ fun Q' hQ' => ?_
  rw [k0_part29_eq_skeleton]; unfold k0_part29_skel
  simp only [semSignalWord, semWaitWord, Prog.lift, Prog.bind_op, Prog.bind_ret, Prog.pure_eq_ret, wp_deviceId]
  iapply (recv_step m K c 0 1 _ _ _ _ (recvS_eq _ _ (peer c 1) 0 (off_recv_0 c 1))) $$ HC Hrc HO; iintro Hrc HO
  iapply (recv_step m K c 0 2 _ _ _ _ (recvS_eq _ _ (peer c 2) 0 (off_recv_0 c 2))) $$ HC Hrc HO; iintro Hrc HO
  refine fin hQ' ?_
  clear hQ' Q'
  refine seq _ _ _ _ _ fun Q' hQ' => ?_
  rw [k0_part30_eq_skeleton]; unfold k0_part30_skel
  simp only [semSignalWord, semWaitWord, Prog.lift, Prog.bind_op, Prog.bind_ret, Prog.pure_eq_ret, wp_deviceId]
  iapply (recv_step m K c 0 3 _ _ _ _ (recvS_eq _ _ (peer c 3) 0 (off_recv_0 c 3))) $$ HC Hrc HO; iintro Hrc HO
  refine fin hQ' ?_
  clear hQ' Q'
  refine seq _ _ _ _ _ fun Q' hQ' => ?_
  rw [k0_part31_eq_skeleton]; unfold k0_part31_skel
  simp only [semSignalWord, semWaitWord, Prog.lift, Prog.bind_op, Prog.bind_ret, Prog.pure_eq_ret, wp_deviceId]
  iapply (recv_step m K c 0 4 _ _ _ _ (recvS_eq _ _ (peer c 4) 0 (off_recv_0 c 4))) $$ HC Hrc HO; iintro Hrc HO
  iapply (recv_step m K c 0 5 _ _ _ _ (recvS_eq _ _ (peer c 5) 0 (off_recv_0 c 5))) $$ HC Hrc HO; iintro Hrc HO
  refine fin hQ' ?_
  clear hQ' Q'
  refine seq _ _ _ _ _ fun Q' hQ' => ?_
  rw [k0_part32_eq_skeleton]; unfold k0_part32_skel
  simp only [semSignalWord, semWaitWord, Prog.lift, Prog.bind_op, Prog.bind_ret, Prog.pure_eq_ret, wp_deviceId]
  iapply (recv_step m K c 0 6 _ _ _ _ (recvS_eq _ _ (peer c 6) 0 (off_recv_0 c 6))) $$ HC Hrc HO; iintro Hrc HO
  ihave Hrc := (recv_take m c _ _ _) $$ Hrc; icases Hrc with ⟨Hrc, Hl0⟩
  iapply (gath_load m c 0 _ _ rfl) $$ Hw0 Hl0; iintro Hw0 Hl0
  refine fin hQ' ?_
  clear hQ' Q'
  refine seq _ _ _ _ _ fun Q' hQ' => ?_
  rw [k0_part33_eq_skeleton]; unfold k0_part33_skel
  simp only [semSignalWord, semWaitWord, Prog.lift, Prog.bind_op, Prog.bind_ret, Prog.pure_eq_ret, wp_deviceId]
  iapply (row_load m c 0 _ _ rfl) $$ Hx0; iintro Hx0
  iapply (y_load c 0 _ _ rfl) $$ Hy0; iintro %v Hy0
  iapply (y_store m c 0 0 _ _ rfl rfl) $$ Hy0; iintro Hy0
  iapply (out_step m c 0 0 _ _ _ _ rfl rfl _ rfl) $$ Hy0 Hr0 Hz0; iintro Hf0
  refine fin hQ' ?_
  clear hQ' Q'
  refine seq _ _ _ _ _ fun Q' hQ' => ?_
  rw [k0_part34_eq_skeleton]; unfold k0_part34_skel
  simp only [semSignalWord, semWaitWord, Prog.lift, Prog.bind_op, Prog.bind_ret, Prog.pure_eq_ret, wp_deviceId]
  iapply (recv_step m K c 1 0 _ _ _ _ (recvS_eq _ _ (peer c 0) 1 (off_recv_1 c 0))) $$ HC Hrc HO; iintro Hrc HO
  refine fin hQ' ?_
  clear hQ' Q'
  refine seq _ _ _ _ _ fun Q' hQ' => ?_
  rw [k0_part35_eq_skeleton]; unfold k0_part35_skel
  simp only [semSignalWord, semWaitWord, Prog.lift, Prog.bind_op, Prog.bind_ret, Prog.pure_eq_ret, wp_deviceId]
  iapply (recv_step m K c 1 1 _ _ _ _ (recvS_eq _ _ (peer c 1) 1 (off_recv_1 c 1))) $$ HC Hrc HO; iintro Hrc HO
  iapply (recv_step m K c 1 2 _ _ _ _ (recvS_eq _ _ (peer c 2) 1 (off_recv_1 c 2))) $$ HC Hrc HO; iintro Hrc HO
  refine fin hQ' ?_
  clear hQ' Q'
  refine seq _ _ _ _ _ fun Q' hQ' => ?_
  rw [k0_part36_eq_skeleton]; unfold k0_part36_skel
  simp only [semSignalWord, semWaitWord, Prog.lift, Prog.bind_op, Prog.bind_ret, Prog.pure_eq_ret, wp_deviceId]
  iapply (recv_step m K c 1 3 _ _ _ _ (recvS_eq _ _ (peer c 3) 1 (off_recv_1 c 3))) $$ HC Hrc HO; iintro Hrc HO
  refine fin hQ' ?_
  clear hQ' Q'
  refine seq _ _ _ _ _ fun Q' hQ' => ?_
  rw [k0_part37_eq_skeleton]; unfold k0_part37_skel
  simp only [semSignalWord, semWaitWord, Prog.lift, Prog.bind_op, Prog.bind_ret, Prog.pure_eq_ret, wp_deviceId]
  iapply (recv_step m K c 1 4 _ _ _ _ (recvS_eq _ _ (peer c 4) 1 (off_recv_1 c 4))) $$ HC Hrc HO; iintro Hrc HO
  iapply (recv_step m K c 1 5 _ _ _ _ (recvS_eq _ _ (peer c 5) 1 (off_recv_1 c 5))) $$ HC Hrc HO; iintro Hrc HO
  refine fin hQ' ?_
  clear hQ' Q'
  refine seq _ _ _ _ _ fun Q' hQ' => ?_
  rw [k0_part38_eq_skeleton]; unfold k0_part38_skel
  simp only [semSignalWord, semWaitWord, Prog.lift, Prog.bind_op, Prog.bind_ret, Prog.pure_eq_ret, wp_deviceId]
  iapply (recv_step m K c 1 6 _ _ _ _ (recvS_eq _ _ (peer c 6) 1 (off_recv_1 c 6))) $$ HC Hrc HO; iintro Hrc HO
  ihave Hrc := (recv_take m c _ _ _) $$ Hrc; icases Hrc with ⟨Hrc, Hl1⟩
  iapply (gath_load m c 1 _ _ rfl) $$ Hw1 Hl1; iintro Hw1 Hl1
  refine fin hQ' ?_
  clear hQ' Q'
  refine seq _ _ _ _ _ fun Q' hQ' => ?_
  rw [k0_part39_eq_skeleton]; unfold k0_part39_skel
  simp only [semSignalWord, semWaitWord, Prog.lift, Prog.bind_op, Prog.bind_ret, Prog.pure_eq_ret, wp_deviceId]
  iapply (row_load m c 1 _ _ rfl) $$ Hx1; iintro Hx1
  iapply (y_load c 1 _ _ rfl) $$ Hy1; iintro %v Hy1
  iapply (y_store m c 1 1 _ _ rfl rfl) $$ Hy1; iintro Hy1
  iapply (out_step m c 1 1 _ _ _ _ rfl rfl _ rfl) $$ Hy1 Hr1 Hz1; iintro Hf1
  refine fin hQ' ?_
  clear hQ' Q'
  refine seq _ _ _ _ _ fun Q' hQ' => ?_
  rw [k0_part40_eq_skeleton]; unfold k0_part40_skel
  simp only [semSignalWord, semWaitWord, Prog.lift, Prog.bind_op, Prog.bind_ret, Prog.pure_eq_ret, wp_deviceId]
  iapply (recv_step m K c 2 0 _ _ _ _ (recvS_eq _ _ (peer c 0) 2 (off_recv_2 c 0))) $$ HC Hrc HO; iintro Hrc HO
  iapply (recv_step m K c 2 1 _ _ _ _ (recvS_eq _ _ (peer c 1) 2 (off_recv_2 c 1))) $$ HC Hrc HO; iintro Hrc HO
  refine fin hQ' ?_
  clear hQ' Q'
  refine seq _ _ _ _ _ fun Q' hQ' => ?_
  rw [k0_part41_eq_skeleton]; unfold k0_part41_skel
  simp only [semSignalWord, semWaitWord, Prog.lift, Prog.bind_op, Prog.bind_ret, Prog.pure_eq_ret, wp_deviceId]
  iapply (recv_step m K c 2 2 _ _ _ _ (recvS_eq _ _ (peer c 2) 2 (off_recv_2 c 2))) $$ HC Hrc HO; iintro Hrc HO
  refine fin hQ' ?_
  clear hQ' Q'
  refine seq _ _ _ _ _ fun Q' hQ' => ?_
  rw [k0_part42_eq_skeleton]; unfold k0_part42_skel
  simp only [semSignalWord, semWaitWord, Prog.lift, Prog.bind_op, Prog.bind_ret, Prog.pure_eq_ret, wp_deviceId]
  iapply (recv_step m K c 2 3 _ _ _ _ (recvS_eq _ _ (peer c 3) 2 (off_recv_2 c 3))) $$ HC Hrc HO; iintro Hrc HO
  iapply (recv_step m K c 2 4 _ _ _ _ (recvS_eq _ _ (peer c 4) 2 (off_recv_2 c 4))) $$ HC Hrc HO; iintro Hrc HO
  refine fin hQ' ?_
  clear hQ' Q'
  refine seq _ _ _ _ _ fun Q' hQ' => ?_
  rw [k0_part43_eq_skeleton]; unfold k0_part43_skel
  simp only [semSignalWord, semWaitWord, Prog.lift, Prog.bind_op, Prog.bind_ret, Prog.pure_eq_ret, wp_deviceId]
  iapply (recv_step m K c 2 5 _ _ _ _ (recvS_eq _ _ (peer c 5) 2 (off_recv_2 c 5))) $$ HC Hrc HO; iintro Hrc HO
  refine fin hQ' ?_
  clear hQ' Q'
  refine seq _ _ _ _ _ fun Q' hQ' => ?_
  rw [k0_part44_eq_skeleton]; unfold k0_part44_skel
  simp only [semSignalWord, semWaitWord, Prog.lift, Prog.bind_op, Prog.bind_ret, Prog.pure_eq_ret, wp_deviceId]
  iapply (recv_step m K c 2 6 _ _ _ _ (recvS_eq _ _ (peer c 6) 2 (off_recv_2 c 6))) $$ HC Hrc HO; iintro Hrc HO
  ihave Hrc := (recv_take m c _ _ _) $$ Hrc; icases Hrc with ⟨Hrc, Hl2⟩
  iapply (gath_load m c 2 _ _ rfl) $$ Hw2 Hl2; iintro Hw2 Hl2
  refine fin hQ' ?_
  clear hQ' Q'
  refine seq _ _ _ _ _ fun Q' hQ' => ?_
  rw [k0_part45_eq_skeleton]; unfold k0_part45_skel
  simp only [semSignalWord, semWaitWord, Prog.lift, Prog.bind_op, Prog.bind_ret, Prog.pure_eq_ret, wp_deviceId]
  iapply (out_wait m K c 0 0 _ rfl) $$ HC Hf0 HO; iintro Hr0 Hy0 Hz0 HO
  iapply (row_load m c 2 _ _ rfl) $$ Hx2; iintro Hx2
  iapply (y_load c 0 _ _ rfl) $$ Hy0; iintro %v Hy0
  iapply (y_store m c 2 0 _ _ rfl rfl) $$ Hy0; iintro Hy0
  iapply (out_step m c 2 0 _ _ _ _ rfl rfl _ rfl) $$ Hy0 Hr2 Hz0; iintro Hf0
  refine fin hQ' ?_
  clear hQ' Q'
  refine seq _ _ _ _ _ fun Q' hQ' => ?_
  rw [k0_part46_eq_skeleton]; unfold k0_part46_skel
  simp only [semSignalWord, semWaitWord, Prog.lift, Prog.bind_op, Prog.bind_ret, Prog.pure_eq_ret, wp_deviceId]
  iapply (recv_step m K c 3 0 _ _ _ _ (recvS_eq _ _ (peer c 0) 3 (off_recv_3 c 0))) $$ HC Hrc HO; iintro Hrc HO
  iapply (recv_step m K c 3 1 _ _ _ _ (recvS_eq _ _ (peer c 1) 3 (off_recv_3 c 1))) $$ HC Hrc HO; iintro Hrc HO
  refine fin hQ' ?_
  clear hQ' Q'
  refine seq _ _ _ _ _ fun Q' hQ' => ?_
  rw [k0_part47_eq_skeleton]; unfold k0_part47_skel
  simp only [semSignalWord, semWaitWord, Prog.lift, Prog.bind_op, Prog.bind_ret, Prog.pure_eq_ret, wp_deviceId]
  iapply (recv_step m K c 3 2 _ _ _ _ (recvS_eq _ _ (peer c 2) 3 (off_recv_3 c 2))) $$ HC Hrc HO; iintro Hrc HO
  refine fin hQ' ?_
  clear hQ' Q'
  refine seq _ _ _ _ _ fun Q' hQ' => ?_
  rw [k0_part48_eq_skeleton]; unfold k0_part48_skel
  simp only [semSignalWord, semWaitWord, Prog.lift, Prog.bind_op, Prog.bind_ret, Prog.pure_eq_ret, wp_deviceId]
  iapply (recv_step m K c 3 3 _ _ _ _ (recvS_eq _ _ (peer c 3) 3 (off_recv_3 c 3))) $$ HC Hrc HO; iintro Hrc HO
  iapply (recv_step m K c 3 4 _ _ _ _ (recvS_eq _ _ (peer c 4) 3 (off_recv_3 c 4))) $$ HC Hrc HO; iintro Hrc HO
  refine fin hQ' ?_
  clear hQ' Q'
  refine seq _ _ _ _ _ fun Q' hQ' => ?_
  rw [k0_part49_eq_skeleton]; unfold k0_part49_skel
  simp only [semSignalWord, semWaitWord, Prog.lift, Prog.bind_op, Prog.bind_ret, Prog.pure_eq_ret, wp_deviceId]
  iapply (recv_step m K c 3 5 _ _ _ _ (recvS_eq _ _ (peer c 5) 3 (off_recv_3 c 5))) $$ HC Hrc HO; iintro Hrc HO
  refine fin hQ' ?_
  clear hQ' Q'
  refine seq _ _ _ _ _ fun Q' hQ' => ?_
  rw [k0_part50_eq_skeleton]; unfold k0_part50_skel
  simp only [semSignalWord, semWaitWord, Prog.lift, Prog.bind_op, Prog.bind_ret, Prog.pure_eq_ret, wp_deviceId]
  iapply (recv_step m K c 3 6 _ _ _ _ (recvS_eq _ _ (peer c 6) 3 (off_recv_3 c 6))) $$ HC Hrc HO; iintro Hrc HO
  ihave Hrc := (recv_take m c _ _ _) $$ Hrc; icases Hrc with ⟨Hrc, Hl3⟩
  iapply (gath_load m c 3 _ _ rfl) $$ Hw3 Hl3; iintro Hw3 Hl3
  refine fin hQ' ?_
  clear hQ' Q'
  refine seq _ _ _ _ _ fun Q' hQ' => ?_
  rw [k0_part51_eq_skeleton]; unfold k0_part51_skel
  simp only [semSignalWord, semWaitWord, Prog.lift, Prog.bind_op, Prog.bind_ret, Prog.pure_eq_ret, wp_deviceId]
  iapply (out_wait m K c 1 1 _ rfl) $$ HC Hf1 HO; iintro Hr1 Hy1 Hz1 HO
  iapply (row_load m c 3 _ _ rfl) $$ Hx3; iintro Hx3
  iapply (y_load c 1 _ _ rfl) $$ Hy1; iintro %v Hy1
  iapply (y_store m c 3 1 _ _ rfl rfl) $$ Hy1; iintro Hy1
  iapply (out_step m c 3 1 _ _ _ _ rfl rfl _ rfl) $$ Hy1 Hr3 Hz1; iintro Hf1
  iapply (out_wait m K c 2 0 _ rfl) $$ HC Hf0 HO; iintro Hr2 Hy0 Hz0 HO
  iapply (out_wait m K c 3 1 _ rfl) $$ HC Hf1 HO; iintro Hr3 Hy1 Hz1 HO
  refine fin hQ' ?_
  clear hQ' Q'
  ihave Hd := (send_end c _) $$ Hst
  ihave Hd := (done_start m c) $$ Hd Hpos
  refine seq _ _ _ _ _ fun Q' hQ' => ?_
  rw [k0_part52_eq_skeleton]; unfold k0_part52_skel
  simp only [semSignalWord, semWaitWord, Prog.lift, Prog.bind_op, Prog.bind_ret, Prog.pure_eq_ret, wp_deviceId]
  iapply (done_step m K c 0 0 _ _ _ rfl) $$ HC Hd HO; iintro Hd HO
  iapply (done_step m K c 0 1 _ _ _ rfl) $$ HC Hd HO; iintro Hd HO
  iapply (done_step m K c 0 2 _ _ _ rfl) $$ HC Hd HO; iintro Hd HO
  refine fin hQ' ?_
  clear hQ' Q'
  refine seq _ _ _ _ _ fun Q' hQ' => ?_
  rw [k0_part53_eq_skeleton]; unfold k0_part53_skel
  simp only [semSignalWord, semWaitWord, Prog.lift, Prog.bind_op, Prog.bind_ret, Prog.pure_eq_ret, wp_deviceId]
  iapply (done_step m K c 0 3 _ _ _ rfl) $$ HC Hd HO; iintro Hd HO
  iapply (done_step m K c 0 4 _ _ _ rfl) $$ HC Hd HO; iintro Hd HO
  iapply (done_step m K c 0 5 _ _ _ rfl) $$ HC Hd HO; iintro Hd HO
  refine fin hQ' ?_
  clear hQ' Q'
  refine seq _ _ _ _ _ fun Q' hQ' => ?_
  rw [k0_part54_eq_skeleton]; unfold k0_part54_skel
  simp only [semSignalWord, semWaitWord, Prog.lift, Prog.bind_op, Prog.bind_ret, Prog.pure_eq_ret, wp_deviceId]
  iapply (done_step m K c 0 6 _ _ _ rfl) $$ HC Hd HO; iintro Hd HO
  iapply (done_step m K c 1 0 _ _ _ rfl) $$ HC Hd HO; iintro Hd HO
  iapply (done_step m K c 1 1 _ _ _ rfl) $$ HC Hd HO; iintro Hd HO
  refine fin hQ' ?_
  clear hQ' Q'
  refine seq _ _ _ _ _ fun Q' hQ' => ?_
  rw [k0_part55_eq_skeleton]; unfold k0_part55_skel
  simp only [semSignalWord, semWaitWord, Prog.lift, Prog.bind_op, Prog.bind_ret, Prog.pure_eq_ret, wp_deviceId]
  iapply (done_step m K c 1 2 _ _ _ rfl) $$ HC Hd HO; iintro Hd HO
  iapply (done_step m K c 1 3 _ _ _ rfl) $$ HC Hd HO; iintro Hd HO
  iapply (done_step m K c 1 4 _ _ _ rfl) $$ HC Hd HO; iintro Hd HO
  refine fin hQ' ?_
  clear hQ' Q'
  refine seq _ _ _ _ _ fun Q' hQ' => ?_
  rw [k0_part56_eq_skeleton]; unfold k0_part56_skel
  simp only [semSignalWord, semWaitWord, Prog.lift, Prog.bind_op, Prog.bind_ret, Prog.pure_eq_ret, wp_deviceId]
  iapply (done_step m K c 1 5 _ _ _ rfl) $$ HC Hd HO; iintro Hd HO
  iapply (done_step m K c 1 6 _ _ _ rfl) $$ HC Hd HO; iintro Hd HO
  iapply (done_step m K c 2 0 _ _ _ rfl) $$ HC Hd HO; iintro Hd HO
  refine fin hQ' ?_
  clear hQ' Q'
  refine seq _ _ _ _ _ fun Q' hQ' => ?_
  rw [k0_part57_eq_skeleton]; unfold k0_part57_skel
  simp only [semSignalWord, semWaitWord, Prog.lift, Prog.bind_op, Prog.bind_ret, Prog.pure_eq_ret, wp_deviceId]
  iapply (done_step m K c 2 1 _ _ _ rfl) $$ HC Hd HO; iintro Hd HO
  iapply (done_step m K c 2 2 _ _ _ rfl) $$ HC Hd HO; iintro Hd HO
  iapply (done_step m K c 2 3 _ _ _ rfl) $$ HC Hd HO; iintro Hd HO
  iapply (done_step m K c 2 4 _ _ _ rfl) $$ HC Hd HO; iintro Hd HO
  refine fin hQ' ?_
  clear hQ' Q'
  refine seq _ _ _ _ _ fun Q' hQ' => ?_
  rw [k0_part58_eq_skeleton]; unfold k0_part58_skel
  simp only [semSignalWord, semWaitWord, Prog.lift, Prog.bind_op, Prog.bind_ret, Prog.pure_eq_ret, wp_deviceId]
  iapply (done_step m K c 2 5 _ _ _ rfl) $$ HC Hd HO; iintro Hd HO
  iapply (done_step m K c 2 6 _ _ _ rfl) $$ HC Hd HO; iintro Hd HO
  iapply (done_step m K c 3 0 _ _ _ rfl) $$ HC Hd HO; iintro Hd HO
  refine fin hQ' ?_
  clear hQ' Q'
  refine seq _ _ _ _ _ fun Q' hQ' => ?_
  rw [k0_part59_eq_skeleton]; unfold k0_part59_skel
  simp only [semSignalWord, semWaitWord, Prog.lift, Prog.bind_op, Prog.bind_ret, Prog.pure_eq_ret, wp_deviceId]
  iapply (done_step m K c 3 1 _ _ _ rfl) $$ HC Hd HO; iintro Hd HO
  iapply (done_step m K c 3 2 _ _ _ rfl) $$ HC Hd HO; iintro Hd HO
  iapply (done_step m K c 3 3 _ _ _ rfl) $$ HC Hd HO; iintro Hd HO
  refine fin hQ' ?_
  clear hQ' Q'
  refine fin hQ₀ ?_
  simp only [semSignalWord, semWaitWord, Prog.lift, Prog.bind_op, Prog.bind_ret, Prog.pure_eq_ret, wp_deviceId]
  iapply (done_step m K c 3 4 _ _ _ rfl) $$ HC Hd HO; iintro Hd HO
  iapply (done_step m K c 3 5 _ _ _ rfl) $$ HC Hd HO; iintro Hd HO
  iapply (done_step m K c 3 6 _ _ _ rfl) $$ HC Hd HO; iintro Hd HO
  refine fin_end ?_
  iapply HQ $$ HO
  simp only [endSt, blocks, outSlots, chain_cons, chain_nil, colEnd]
  isplitl [Hbar]; · iexact Hbar
  isplitl [Hd]; · iexact Hd
  isplitl [Hrc]; · iexact Hrc
  isplitl [Hi0 Hi1 Hi2 Hi3]
  · isplitl [Hi0]; · iexact Hi0
    isplitl [Hi1]; · iexact Hi1
    isplitl [Hi2]; · iexact Hi2
    isplitl [Hi3]; · iexact Hi3
    iempintro
  isplitl [Hx0 Hx1 Hx2 Hx3]
  · isplitl [Hx0]; · iexact Hx0
    isplitl [Hx1]; · iexact Hx1
    isplitl [Hx2]; · iexact Hx2
    isplitl [Hx3]; · iexact Hx3
    iempintro
  isplitl [Hw0 Hw1 Hw2 Hw3 Hl0 Hl1 Hl2 Hl3]
  · isplitl [Hw0 Hl0]
    · isplitl [Hw0]; · iexact Hw0
      iexact Hl0
    isplitl [Hw1 Hl1]
    · isplitl [Hw1]; · iexact Hw1
      iexact Hl1
    isplitl [Hw2 Hl2]
    · isplitl [Hw2]; · iexact Hw2
      iexact Hl2
    isplitl [Hw3 Hl3]
    · isplitl [Hw3]; · iexact Hw3
      iexact Hl3
    iempintro
  isplitl [Hy0 Hy1]
  · isplitl [Hy0]; · iexact Hy0
    isplitl [Hy1]; · iexact Hy1
    iempintro
  isplitl [Hz0 Hz1]
  · isplitl [Hz0]; · iexact Hz0
    isplitl [Hz1]; · iexact Hz1
    iempintro
  isplitl [Hr0 Hr1 Hr2 Hr3]
  · isplitl [Hr0]; · iexact Hr0
    isplitl [Hr1]; · iexact Hr1
    isplitl [Hr2]; · iexact Hr2
    isplitl [Hr3]; · iexact Hr3
    iempintro
  isplitl [HG]; · iexact HG
  iexact HB

end Cert.KernelIdeal.Run

end
-- ==== Proof.KernelIdeal.Ends.lean ====
/-
# The two ends of the body

What the launch hands a device, whole buffers and families over all cells, is what the body begins with, piece by piece; and what the
body ends with is whole buffers and all semaphores at zero again.
-/
module

public import proofs.«01_k».proof.Proof.KernelIdeal.Body

@[expose] public section

noncomputable section

namespace Cert.KernelIdeal.Run

open Cert.KernelIdeal Cert.KernelIdeal.Gen Cert.Chain

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families along lists -/

theorem blocks_eq (f : Fin 4 → sProp 𝕄) : bigSep Finset.univ f = chain f blocks := chain_univ f blocks (by decide) (by decide)
theorem outSlots_eq (f : Fin 2 → sProp 𝕄) : bigSep Finset.univ f = chain f outSlots := chain_univ f outSlots (by decide) (by decide)
theorem peers_eq (f : Fin 7 → sProp 𝕄) : bigSep Finset.univ f = chain f allPeers := chain_univ f allPeers allPeers_nodup mem_allPeers
theorem jobs_eq (f : Fin 4 × Fin 7 → sProp 𝕄) : bigSep Finset.univ f = chain f allJobs := chain_univ f allJobs allJobs_nodup mem_allJobs
theorem jobsR_eq (f : Fin 4 × Fin 7 → sProp 𝕄) : bigSep Finset.univ f = chain f allJobsR := chain_univ f allJobsR allJobsR_nodup mem_allJobsR

/-- The transfers of a row block. -/
theorem rowJobs_eq (f : Fin 4 × Fin 7 → sProp 𝕄) (b : Fin 4) : chain f (jobsR b) = bigSep Finset.univ fun k : Fin 7 => f (b, k) := by
  rw [chain_univ (fun k : Fin 7 => f (b, k)) [6, 5, 4, 3, 2, 1, 0] (by decide) (by decide)]
  rfl

/-- All transfers, row block by row block. -/
theorem rows_eq (f : Fin 4 × Fin 7 → sProp 𝕄) : chain (fun b => chain f (jobsR b)) blocks = bigSep Finset.univ f := by
  rw [← blocks_eq, bigSep_univ_prod]
  exact bigSep_congr fun b _ => rowJobs_eq f b

/-- All slots of the exchange buffer as device `c` sees them: those of the others, its own. -/
def slotL (c : Dev nD) : List (Dev nD × Fin 4) := (allJobs.map fun j => (peer c j.2, j.1)) ++ blocks.map fun b => (c, b)
theorem slotL_nodup : ∀ c, (slotL c).Nodup := by decide +kernel
theorem mem_slotL : ∀ c p, p ∈ slotL c := by decide +kernel

theorem slots_eq (c : Dev nD) (f : Dev nD × Fin 4 → sProp 𝕄) :
    bigSep Finset.univ f ⊣⊢ iprop((bigSep Finset.univ fun j : Fin 4 × Fin 7 => f (peer c j.2, j.1)) ∗ bigSep Finset.univ fun b => f (c, b)) := by
  rw [chain_univ f (slotL c) (slotL_nodup c) (mem_slotL c), jobs_eq, blocks_eq]
  have h := chain_append f (allJobs.map fun j => (peer c j.2, j.1)) (blocks.map fun b => (c, b))
  rw [chain_map, chain_map] at h
  exact h

/-- Contents forgotten. -/
theorem at_any {T : Type} {P : T → sProp 𝕄} (f : T) : P f ⊢ iprop(∃ f, P f) := by
  iintro H; iexists f; iexact H

theorem all_any {I T : Type} [Fintype I] (P : I → T → sProp 𝕄) (f : T) :
    (bigSep Finset.univ fun i => P i f) ⊢ bigSep Finset.univ fun i => iprop(∃ f, P i f) :=
  bigSep_mono fun _ _ => at_any f

/-! ## Whole buffers in pieces -/

theorem pieces {T : Type} [Fintype T] {ℓ : Loc nD τ sig} (K : T → Finset (Idx ℓ)) (f : Buf (Elt F) ℓ)
    (hd : ∀ t t', t ≠ t' → Disjoint (K t) (K t')) (hc : ∀ i, ∃ t, i ∈ K t) :
    (iprop(ℓ ↦{fullShare} f) : sProp 𝕄) = bigSep Finset.univ fun t => iprop(ℓ ↦[K t]{fullShare} f) := by
  classical
  rw [← pointsTo_biUnion (ℓ := ℓ) (q := fullShare) (f := f) Finset.univ K fun t _ t' _ => hd t t']
  rw [show Finset.univ.biUnion K = Finset.univ from Finset.eq_univ_iff_forall.mpr fun i => by
    obtain ⟨t, ht⟩ := hc i; exact Finset.mem_biUnion.mpr ⟨t, Finset.mem_univ _, ht⟩]

/-- The pieces of a buffer, each at some contents, are the buffer at some contents. -/
theorem pieces_any {T : Type} [Fintype T] [DecidableEq T] {ℓ : Loc nD τ sig} (K : T → Finset (Idx ℓ)) (f₀ : Buf (Elt F) ℓ)
    (hd : ∀ t t', t ≠ t' → Disjoint (K t) (K t')) (hc : ∀ i, ∃ t, i ∈ K t) :
    (bigSep Finset.univ fun t => iprop(∃ f : Buf (Elt F) ℓ, ℓ ↦[K t]{fullShare} f) : sProp 𝕄) ⊢ iprop(∃ f : Buf (Elt F) ℓ, ℓ ↦{fullShare} f) := by
  have : Nonempty (Buf (Elt F) ℓ) := ⟨f₀⟩
  iintro H
  ihave H := (bigSep_exists_pi Finset.univ fun (t : T) (f : Buf (Elt F) ℓ) => (iprop(ℓ ↦[K t]{fullShare} f) : sProp 𝕄)) $$ H
  icases H with ⟨%fs, H⟩
  ihave H := (pointsTo_biUnion_join (ℓ := ℓ) (q := fullShare) Finset.univ K fs f₀ fun t _ t' _ => hd t t') $$ H
  icases H with ⟨%g, -, H⟩
  iexists g
  rw [show Finset.univ.biUnion K = Finset.univ from Finset.eq_univ_iff_forall.mpr fun i => by
    obtain ⟨t, ht⟩ := hc i; exact Finset.mem_biUnion.mpr ⟨t, Finset.mem_univ _, ht⟩]
  iexact H

theorem row_disj (b b' : Fin 4) (h : b ≠ b') : Disjoint (rowS b) (rowS b') :=
  Finset.disjoint_left.mpr fun i hi hi' => h (Fin.ext ((mem_rowS.mp hi).symm.trans (mem_rowS.mp hi')))
theorem row_cover (i : S4096x1024.Idx) : ∃ b, i ∈ rowS b :=
  ⟨⟨(i 0).val / 1024, by have : (i 0).val < 4096 := (i 0).isLt; omega⟩, mem_rowS.mpr rfl⟩
theorem out_disj (p p' : Fin 2) (h : p ≠ p') : Disjoint (outS p) (outS p') :=
  Finset.disjoint_left.mpr fun i hi hi' => h (Fin.ext ((mem_outS.mp hi).symm.trans (mem_outS.mp hi')))
theorem out_cover (i : S2x1024x1024.Idx) : ∃ p, i ∈ outS p := ⟨i 0, mem_outS.mpr rfl⟩
theorem slot_disj (p p' : Dev nD × Fin 4) (h : p ≠ p') : Disjoint (slotS p.1 p.2) (slotS p'.1 p'.2) :=
  Finset.disjoint_left.mpr fun i hi hi' => h (Prod.ext (Fin.ext ((mem_slotS.mp hi).1.symm.trans (mem_slotS.mp hi').1))
    (Fin.ext ((mem_slotS.mp hi).2.symm.trans (mem_slotS.mp hi').2)))
theorem slot_cover (i : S8x4x2x8x128.Idx) : ∃ p : Dev nD × Fin 4, i ∈ slotS p.1 p.2 := ⟨(i 0, i 1), mem_slotS.mpr ⟨rfl, rfl⟩⟩

theorem rows_arg (c : Dev nD) : (iprop(((c : Thread nD τ).loc main_arg0) ↦{fullShare} m ((c : Thread nD τ).loc main_arg0)) : sProp 𝕄)
    = bigSep Finset.univ fun b => xHrow m c b :=
  pieces (ℓ := (c : Thread nD τ).loc main_arg0) rowS _ row_disj row_cover
theorem rows_scr (c : Dev nD) (f : S4096x1024.Idx → Elt F .f32) : (iprop(((c : Thread nD τ).loc cc0_scratch0) ↦{fullShare} f) : sProp 𝕄)
    = bigSep Finset.univ fun b => xVrow c b f :=
  pieces (ℓ := (c : Thread nD τ).loc cc0_scratch0) rowS f row_disj row_cover
theorem rows_res (c : Dev nD) (f : S4096x1024.Idx → Elt F .bf16) : (iprop(((c : Thread nD τ).loc main_v1) ↦{fullShare} f) : sProp 𝕄)
    = bigSep Finset.univ fun b => yHrow c b f :=
  pieces (ℓ := (c : Thread nD τ).loc main_v1) rowS f row_disj row_cover
theorem outs_scr (c : Dev nD) (f : S2x1024x1024.Idx → Elt F .bf16) : (iprop(((c : Thread nD τ).loc cc0_scratch1) ↦{fullShare} f) : sProp 𝕄)
    = bigSep Finset.univ fun p => ySlot c p f :=
  pieces (ℓ := (c : Thread nD τ).loc cc0_scratch1) outS f out_disj out_cover
include m in
theorem outs_join (c : Dev nD) : (bigSep Finset.univ fun p => yFree (F := F) c p)
    ⊢ iprop(∃ f : S2x1024x1024.Idx → Elt F .bf16, ((c : Thread nD τ).loc cc0_scratch1) ↦{fullShare} f) :=
  pieces_any (ℓ := (c : Thread nD τ).loc cc0_scratch1) outS (yC m c 0) out_disj out_cover
theorem slots_scr (c : Dev nD) (f : S8x4x2x8x128.Idx → Elt F .f32) : (iprop(((c : Thread nD τ).loc cc0_scratch2) ↦{fullShare} f) : sProp 𝕄)
    = bigSep Finset.univ fun p : Dev nD × Fin 4 => slotPts c p.1 p.2 fullShare f :=
  pieces (ℓ := (c : Thread nD τ).loc cc0_scratch2) (fun p : Dev nD × Fin 4 => slotS p.1 p.2) f slot_disj slot_cover

/-! ## The beginning -/

/-- The exchange's cells, one family per kind. -/
theorem cells_eq (f : Cell → sProp 𝕄) : bigSep Finset.univ f
    = iprop(f .bar ∗ (bigSep Finset.univ fun j : Fin 4 × Fin 7 => f (.send j.1 j.2)) ∗ bigSep Finset.univ fun p : Dev nD × Fin 4 => f (.recv p.1 p.2)) := by
  rw [bigSep_univ_sum, bigSep_univ_sum]
  congr 1
  rw [Finset.univ_unique, bigSep_singleton]

/-- The tokens of the duties device `c` pays. -/
def payToks (c : Dev nD) : sProp 𝕄 :=
  iprop((bigSep Finset.univ fun k : Fin 7 => dutyTok ER (barC (peer c k)) 0 (rev k))
    ∗ (bigSep Finset.univ fun j : Fin 4 × Fin 7 => dutyTok ER (sendC c j.1 j.2) 0 0)
    ∗ bigSep Finset.univ fun j : Fin 4 × Fin 7 => dutyTok ER (recvC (peer c j.2) c j.1) 0 0)

/-- What the allocation of the cells leaves device `c`: its local semaphores, its positions, the tokens it pays. -/
def linear (c : Dev nD) : sProp 𝕄 :=
  iprop((bigSep Finset.univ fun b : Fin 4 => semVal ((c : Thread nD τ), .dma (inS b)) 0) ∗ (bigSep Finset.univ fun p : Fin 2 => outZero (F := F) c p)
    ∗ (bigSep Finset.univ fun x : Cell => atPos ER (cellAt c x) 0 ∅ 0) ∗ payToks (F := F) c)

/-- The launch credit of device `c`. -/
def creds (c : Dev nD) : sProp 𝕄 :=
  iprop(cred (tallyAt (barC c) () 7) ∗ bigSep Finset.univ fun j : Fin 4 × Fin 7 => cred (tallyAt (recvC c (peer c j.2) j.1) () N))

/-- The argument and the result buffers, the result at `f`. -/
def arrays (c : Dev nD) (f : S4096x1024.Idx → Elt F .bf16) : sProp 𝕄 :=
  iprop((((c : Thread nD τ).loc main_arg0) ↦{fullShare} m ((c : Thread nD τ).loc main_arg0)) ∗ (((c : Thread nD τ).loc main_v1) ↦{fullShare} f))

/-- The scratch buffers, at any contents. -/
def scratch (c : Dev nD) : sProp 𝕄 :=
  iprop((∃ f : S4096x1024.Idx → Elt F .f32, ((c : Thread nD τ).loc cc0_scratch0) ↦{fullShare} f)
    ∗ (∃ f : S2x1024x1024.Idx → Elt F .bf16, ((c : Thread nD τ).loc cc0_scratch1) ↦{fullShare} f)
    ∗ (∃ f : S8x4x2x8x128.Idx → Elt F .f32, ((c : Thread nD τ).loc cc0_scratch2) ↦{fullShare} f))

/-- A device's own receive cells, which nothing is sent to. -/
def ownPos (c : Dev nD) : sProp 𝕄 := bigSep Finset.univ fun b : Fin 4 => atPos ER (recvC c c b) 0 ∅ 0
def ownZero (c : Dev nD) : sProp 𝕄 := bigSep Finset.univ fun b : Fin 4 => semVal (recvC c c b) 0

theorem slots_any (c : Dev nD) : iprop(∃ f : S8x4x2x8x128.Idx → Elt F .f32, ((c : Thread nD τ).loc cc0_scratch2) ↦{fullShare} f)
    ⊢ (iprop((bigSep Finset.univ fun k : Fin 7 => slotsOf (F := F) c (peer c k)) ∗ chain (fun b => iprop(∃ f, slotPts (F := F) c c b fullShare f)) blocks) : sProp 𝕄) := by
  iintro ⟨%f, H⟩
  ihave H := (Entails.of_eq (slots_scr c f)) $$ H
  ihave H := (slots_eq c fun p : Dev nD × Fin 4 => slotPts c p.1 p.2 fullShare f).1 $$ H
  icases H with ⟨H1, H2⟩
  isplitl [H1]
  · ihave H1 := (Entails.of_eq ((bigSep_univ_prod _).trans (bigSep_univ_comm _))) $$ H1
    iapply (show (bigSep Finset.univ fun k : Fin 7 => bigSep Finset.univ fun b : Fin 4 => slotPts c (peer c k) b fullShare f)
        ⊢ bigSep Finset.univ fun k : Fin 7 => slotsOf (F := F) c (peer c k) from
      bigSep_mono fun k _ => all_any (fun b f => slotPts (F := F) c (peer c k) b fullShare f) f) $$ H1
  · rw [← blocks_eq]
    iapply (all_any (fun b f => slotPts (F := F) c c b fullShare f) f) $$ H2

theorem start_form (c : Dev nD) (f : S4096x1024.Idx → Elt F .bf16) :
    iprop(linear (F := F) c ∗ creds (F := F) c ∗ arrays m c f ∗ scratch (F := F) c ∗ gPts m c ∗ bPts m c) ⊢ iprop(startSt m c ∗ ownPos (F := F) c) := by
  unfold linear creds arrays scratch payToks startSt ownPos
  rw [cells_eq]
  iintro ⟨⟨Hin, Hout, ⟨Hpb, Hps, Hpr⟩, Htb, Hts, Htr⟩, ⟨Hcb, Hcr⟩, ⟨Hx, Hy⟩, ⟨⟨%f0, H0⟩, ⟨%f1, H1⟩, H2⟩, HG, HB⟩
  ihave H2 := (slots_any c) $$ H2
  icases H2 with ⟨Hsl, Hown⟩
  ihave Hpr := (slots_eq c fun p : Dev nD × Fin 4 => (atPos ER (recvC c p.1 p.2) 0 ∅ 0 : sProp 𝕄)).1 $$ Hpr
  icases Hpr with ⟨Hpr, Hpo⟩
  isplitr [Hpo]
  · isplitl [Htb Hsl]
    · rw [← peers_eq, show sigItem (F := F) c = fun k => iprop(dutyTok ER (barC (peer c k)) 0 (rev k) ∗ slotsOf c (peer c k)) from rfl, bigSep_sep']
      isplitl [Htb]; · iexact Htb
      iexact Hsl
    isplitl [Hcb Hpb]
    · unfold barItem
      isplitl [Hcb]; · iexact Hcb
      iexact Hpb
    isplitl [Hts Htr]
    · rw [← jobs_eq, show sendTok (F := F) c = fun j => iprop(dutyTok ER (sendC c j.1 j.2) 0 0 ∗ dutyTok ER (recvC (peer c j.2) c j.1) 0 0) from rfl, bigSep_sep']
      isplitl [Hts]; · iexact Hts
      iexact Htr
    isplitl [Hps]
    · rw [← jobs_eq]; iexact Hps
    isplitl [Hcr Hpr]
    · rw [← jobs_eq, show recvItem (F := F) c = fun j => iprop(cred (tallyAt (recvC c (peer c j.2) j.1) () N) ∗ atPos ER (recvC c (peer c j.2) j.1) 0 ∅ 0) from rfl, bigSep_sep']
      isplitl [Hcr]; · iexact Hcr
      iexact Hpr
    isplitl [Hx H0 Hin]
    · rw [← blocks_eq, show inItem m c = fun b => iprop(xHrow m c b ∗ (∃ f, xVrow (F := F) c b f) ∗ semVal ((c : Thread nD τ), .dma (inS b)) 0) from rfl,
        bigSep_sep', bigSep_sep']
      isplitl [Hx]; · iapply (Entails.of_eq (rows_arg m c)) $$ Hx
      isplitl [H0]
      · ihave H0 := (Entails.of_eq (rows_scr c f0)) $$ H0
        iapply (all_any (xVrow (F := F) c) f0) $$ H0
      iexact Hin
    isplitl [Hown]; · iexact Hown
    isplitl [H1]
    · rw [← outSlots_eq]
      ihave H1 := (Entails.of_eq (outs_scr c f1)) $$ H1
      iapply (all_any (ySlot (F := F) c) f1) $$ H1
    isplitl [Hout]
    · rw [← outSlots_eq]; iexact Hout
    isplitl [Hy]
    · rw [← blocks_eq]
      ihave Hy := (Entails.of_eq (rows_res c f)) $$ Hy
      iapply (all_any (yHrow (F := F) c) f) $$ Hy
    isplitl [HG]; · iexact HG
    iexact HB
  · iexact Hpo

/-! ## The end -/

/-- All seven lent parts and the kept one. -/
theorem lent_back (c : Dev nD) (b : Fin 4) :
    iprop(slotPts c c b (kept 7) (commAll m) ∗ bigSep Finset.univ fun k : Fin 7 => slotPts c c b (lent k) (commAll m)) ⊢ slotPts c c b fullShare (commAll m) := by
  refine BIBase.Entails.trans (sep_mono_right (Entails.of_eq ?_)) (slot_toks m c c b).2
  rw [peers_eq]
  unfold toks
  rw [show Finset.range 7 = (allPeers.map Fin.val).toFinset from by decide, ← chain_toFinset _ _ (by decide), chain_map]
  rfl

theorem sends_back (c : Dev nD) :
    iprop(chain (colEnd m c) blocks ∗ chain (sendBack m c) allJobsR)
      ⊢ iprop((((c : Thread nD τ).loc cc0_scratch2) ↦{fullShare} commAll m) ∗ bigSep Finset.univ fun j : Fin 4 × Fin 7 => semVal (sendC c j.1 j.2) 0) := by
  rw [← jobsR_eq, ← blocks_eq, slots_scr,
    show sendBack m c = fun j => iprop(semVal (sendC c j.1 j.2) 0 ∗ slotPts c c j.1 (lent j.2) (commAll m)) from rfl, bigSep_sep',
    show colEnd m c = fun b => iprop(slotPts c c b (kept 7) (commAll m) ∗ chain (landed m c) (jobsR b)) from rfl, bigSep_sep',
    blocks_eq fun b => chain (landed m c) (jobsR b), rows_eq]
  iintro ⟨⟨Hk, Hl⟩, Hz, Hs⟩
  isplitr [Hz]
  · iapply (slots_eq c fun p : Dev nD × Fin 4 => slotPts c p.1 p.2 fullShare (commAll m)).2
    isplitl [Hl]; · iexact Hl
    ihave Hs := (Entails.of_eq (bigSep_univ_prod _)) $$ Hs
    icombine Hk Hs as H
    iapply (show iprop((bigSep Finset.univ fun b : Fin 4 => slotPts c c b (kept 7) (commAll m))
        ∗ bigSep Finset.univ fun b : Fin 4 => bigSep Finset.univ fun k : Fin 7 => slotPts c c b (lent k) (commAll m))
        ⊢ bigSep Finset.univ fun b : Fin 4 => slotPts c c b fullShare (commAll m) from by
      rw [← bigSep_sep']; exact bigSep_mono fun b _ => lent_back m c b) $$ H
  · iexact Hz

/-- A device's semaphores, all at zero. -/
def semsZero (c : Dev nD) : sProp 𝕄 :=
  iprop((bigSep Finset.univ fun b : Fin 4 => semVal ((c : Thread nD τ), .dma (inS b)) 0) ∗ (bigSep Finset.univ fun p : Fin 2 => outZero (F := F) c p)
    ∗ bigSep Finset.univ fun x : Cell => semVal (cellAt c x) 0)

theorem end_form (c : Dev nD) :
    iprop(endSt m c ∗ ownZero (F := F) c) ⊢ iprop(semsZero (F := F) c ∗ arrays m c (outF m c) ∗ scratch (F := F) c ∗ gPts m c ∗ bPts m c) := by
  unfold endSt doneSt recvSt semsZero arrays scratch ownZero
  rw [cells_eq, ← blocks_eq (inDone m c), ← blocks_eq fun b => xVrow c b (xC m c), ← blocks_eq fun b => yHrow c b (outF m c), ← outSlots_eq, ← outSlots_eq,
    ← jobsR_eq (recvZero c),
    show inDone m c = fun b => iprop(xHrow m c b ∗ semVal ((c : Thread nD τ), .dma (inS b)) 0) from rfl, bigSep_sep']
  iintro ⟨⟨Hb, ⟨-, Hs⟩, ⟨-, -, Hz⟩, Hin, Hx, Hcol, Hyf, Hoz, Hy, HG, HB⟩, Hoz'⟩
  icombine Hcol Hs as Hcs
  ihave Hcs := (sends_back m c) $$ Hcs
  icases Hcs with ⟨H2, Hsz⟩
  icases Hin with ⟨Harg, Hiz⟩
  isplitl [Hb Hz Hoz Hsz Hiz Hoz']
  · isplitl [Hiz]; · iexact Hiz
    isplitl [Hoz]; · iexact Hoz
    isplitl [Hb]; · iexact Hb
    isplitl [Hsz]; · iexact Hsz
    iapply (slots_eq c fun p : Dev nD × Fin 4 => (semVal (recvC c p.1 p.2) 0 : sProp 𝕄)).2
    isplitl [Hz]; · iexact Hz
    iexact Hoz'
  isplitl [Harg Hy]
  · isplitl [Harg]; · iapply (Entails.of_eq (rows_arg m c).symm) $$ Harg
    iapply (Entails.of_eq (rows_res c (outF m c)).symm) $$ Hy
  isplitl [Hx Hyf H2]
  · isplitl [Hx]
    · iexists (xC m c); iapply (Entails.of_eq (rows_scr c (xC m c)).symm) $$ Hx
    isplitl [Hyf]; · iapply (outs_join m c) $$ Hyf
    iexists (commAll m); iexact H2
  isplitl [HG]; · iexact HG
  iexact HB

end Cert.KernelIdeal.Run

end
-- ==== Proof.KernelIdeal.Alloc.lean ====
/-
# What the launch deals

The cells of the exchange are minted for all devices at once, their invariants allocated, and their duty tokens and the launch credit
dealt: a token and a credit go round by the involution that takes (device, offset) to (that peer, the offset back).
-/
module

public import proofs.«01_k».proof.Proof.KernelIdeal.Ends

@[expose] public section

noncomputable section

namespace Cert.KernelIdeal.Run

open Cert.KernelIdeal Cert.KernelIdeal.Gen Cert.Chain

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Going round -/

def turn : Dev nD × Fin 7 ≃ Dev nD × Fin 7 where
  toFun p := (peer p.1 p.2, rev p.2)
  invFun p := (peer p.1 p.2, rev p.2)
  left_inv p := by show (peer (peer p.1 p.2) (rev p.2), rev (rev p.2)) = p; rw [peer_rev, rev_rev]
  right_inv p := by show (peer (peer p.1 p.2) (rev p.2), rev (rev p.2)) = p; rw [peer_rev, rev_rev]

theorem turn_sep (f : Dev nD → Fin 7 → sProp 𝕄) :
    (bigSep Finset.univ fun c => bigSep Finset.univ fun k => f c k) = bigSep Finset.univ fun c => bigSep Finset.univ fun k => f (peer c k) (rev k) := by
  rw [← bigSep_univ_prod fun p : Dev nD × Fin 7 => f p.1 p.2, bigSep_univ_equiv turn, bigSep_univ_prod]
  rfl

theorem turn_sum {A : Type} [AddCommMonoid A] (f : Dev nD → Fin 7 → A) : ∑ c, ∑ k, f (peer c k) (rev k) = ∑ c, ∑ k, f c k := by
  rw [← Fintype.sum_prod_type' f, ← Equiv.sum_comp turn, Fintype.sum_prod_type]
  rfl

/-! ## The launch credit -/

theorem oweS_sum (c : Dev nD) (l : List (Fin 4 × Fin 7)) :
    oweS c l = (l.map fun j => (tallyAt (recvC (peer c j.2) c j.1) () N : CellTallies nD τ sig Unit)).sum := by
  induction l with
  | nil => rfl
  | cons j l ih => rw [List.map_cons, List.sum_cons, ← ih, add_comm]; rfl

theorem oweB_sum (c : Dev nD) (l' : List (Fin 4 × Fin 7)) (l : List (Fin 7)) :
    oweB c l' l = (l.map fun k => (tallyAt (barC (peer c k)) () 1 : CellTallies nD τ sig Unit)).sum + oweS c l' := by
  induction l with
  | nil => rw [List.map_nil, List.sum_nil, zero_add]; rfl
  | cons k l ih => rw [List.map_cons, List.sum_cons, add_assoc, ← ih, add_comm]; rfl

theorem owes_eq (c : Dev nD) : owes₀ c = (∑ k : Fin 7, (tallyAt (barC (peer c k)) () 1 : CellTallies nD τ sig Unit))
    + ∑ k : Fin 7, ∑ b : Fin 4, tallyAt (recvC (peer c k) c b) () N := by
  unfold owes₀
  rw [oweB_sum, oweS_sum, ← List.sum_toFinset _ allPeers_nodup, ← List.sum_toFinset _ allJobs_nodup,
    ← Fintype.sum_prod_type_right fun j : Fin 4 × Fin 7 => (tallyAt (recvC (peer c j.2) c j.1) () N : CellTallies nD τ sig Unit),
    show allPeers.toFinset = Finset.univ from Finset.eq_univ_iff_forall.mpr fun k => List.mem_toFinset.mpr (mem_allPeers k),
    show allJobs.toFinset = Finset.univ from Finset.eq_univ_iff_forall.mpr fun j => List.mem_toFinset.mpr (mem_allJobs j)]

/-- The credit the devices' debts give device `c`. -/
def credT (c : Dev nD) : CellTallies nD τ sig Unit :=
  tallyAt (barC c) () 7 + ∑ k : Fin 7, ∑ b : Fin 4, tallyAt (recvC c (peer c k) b) () N

theorem bar_seven (c : Dev nD) : ∑ _k : Fin 7, (tallyAt (barC c) () 1 : CellTallies nD τ sig Unit) = tallyAt (barC c) () 7 := by
  rw [Fin.sum_univ_seven]; simp only [tallyAt_add]

theorem owes_sum : ∑ c, owes₀ c = ∑ c, credT c := by
  simp only [owes_eq, credT, Finset.sum_add_distrib]
  congr 1
  · rw [turn_sum fun (c : Dev nD) (_ : Fin 7) => (tallyAt (barC c) () 1 : CellTallies nD τ sig Unit)]
    exact Finset.sum_congr rfl fun c _ => bar_seven c
  · rw [← turn_sum fun (c : Dev nD) (k : Fin 7) => ∑ b : Fin 4, (tallyAt (recvC c (peer c k) b) () N : CellTallies nD τ sig Unit)]
    simp only [peer_rev]

theorem tallyAt_at {g g' : GSem nD τ sig} {n : ℕ} (h : (tallyAt g () n : CellTallies nD τ sig Unit) g' ≠ 0) : g' = g := by
  by_contra hne
  exact h (Finsupp.ext fun u => by rw [tallyAt_apply]; rw [if_neg fun hh => hne hh.1]; rfl)

theorem credT_home (c : Dev nD) (g : GSem nD τ sig) (h : credT c g ≠ 0) : g.1 = (c : Thread nD τ) := by
  by_contra hne
  refine h ?_
  unfold credT
  have h0 (x : Cell) (n : ℕ) : (tallyAt (cellAt c x) () n : CellTallies nD τ sig Unit) g = 0 := by
    by_contra hx; exact hne (congrArg Prod.fst (tallyAt_at hx))
  rw [Pi.add_apply, Finset.sum_apply, h0 .bar, zero_add]
  refine Finset.sum_eq_zero fun k _ => ?_
  rw [Finset.sum_apply]
  exact Finset.sum_eq_zero fun b _ => h0 (.recv (peer c k) b) N

theorem creds_of (c : Dev nD) : (Pipeline.launchCred owes₀ c : sProp 𝕄) ⊢ creds (F := F) c := by
  rw [Pipeline.launchCred_of_sum owes₀ credT owes_sum credT_home c]
  unfold credT creds
  refine (cred_add _ _).1.trans (sep_mono_right (Entails.of_eq ?_))
  rw [Pipeline.cred_finsetSum, bigSep_univ_prod, bigSep_univ_comm]
  exact bigSep_congr fun k _ => Pipeline.cred_finsetSum _ _

/-! ## The cells and their tokens -/

theorem cellAt_injective : Function.Injective fun p : Dev nD × Cell => cellAt p.1 p.2 := fun p q h =>
  Prod.ext (cellAt_inj h).1 (cellAt_inj h).2
def theCells : Finset (GSem nD τ sig) := Finset.univ.map ⟨fun p : Dev nD × Cell => cellAt p.1 p.2, cellAt_injective⟩

/-- The duties of a device's cells: seven units on the barrier, one transfer on each send cell and on each peer's receive cell. -/
abbrev Duty : Type := Fin 7 ⊕ ((Fin 4 × Fin 7) ⊕ (Fin 4 × Fin 7))
def tokAt : Dev nD × Duty → GSem nD τ sig × ℕ × Fin 7
  | (c, .inl k) => (barC c, 0, k)
  | (c, .inr (.inl j)) => (sendC c j.1 j.2, 0, 0)
  | (c, .inr (.inr j)) => (recvC c (peer c j.2) j.1, 0, 0)

theorem tokAt_injective : Function.Injective tokAt := by
  rintro ⟨c, k | j | j⟩ ⟨c', k' | j' | j'⟩ h <;> have h1 := cellAt_inj (congrArg Prod.fst h) <;> obtain ⟨rfl, h2⟩ := h1
  · have : k = k' := congrArg (fun x : GSem nD τ sig × ℕ × Fin 7 => x.2.2) h
    rw [this]
  · cases h2
  · cases h2
  · cases h2
  · injection h2 with h2; injection h2 with h2
    have : j = j' := h2
    rw [this]
  · injection h2 with h2; cases h2
  · cases h2
  · injection h2 with h2; cases h2
  · injection h2 with h2; injection h2 with h2
    have hb : j.1 = j'.1 := congrArg Prod.snd h2
    have hk : j.2 = j'.2 := peer_inj c _ _ (congrArg Prod.fst h2)
    rw [Prod.ext hb hk]
def theToks : Finset (GSem nD τ sig × ℕ × Fin 7) := Finset.univ.map ⟨tokAt, tokAt_injective⟩

/-- The launch's element: the pipeline's own, and the exchange's. -/
def u₀ : UU := (initOf (Pipeline.cells cfgs cellOf_inj) (Pipeline.launchToks cfgs cellOf_inj), (initOf theCells theToks, 1))

def minted (c : Dev nD) : sProp 𝕄 :=
  iprop((bigSep Finset.univ fun k : Fin 7 => dutyTok ER (barC c) 0 k)
    ∗ (bigSep Finset.univ fun j : Fin 4 × Fin 7 => dutyTok ER (sendC c j.1 j.2) 0 0)
    ∗ bigSep Finset.univ fun j : Fin 4 × Fin 7 => dutyTok ER (recvC c (peer c j.2) j.1) 0 0)

/-- What device `c` is dealt first, -/
def G (c : Dev nD) : sProp 𝕄 :=
  iprop((bigSep Finset.univ fun x : Cell => roundState ER (sch m) (cellAt c x) 0) ∗ (bigSep Finset.univ fun x : Cell => atPos ER (cellAt c x) 0 ∅ 0)
    ∗ (bigSep Finset.univ fun x : Cell => reached ER (cellAt c x) 0) ∗ minted (F := F) c)

/-- the records every device shares, -/
def records (K : Dev nD × Cell → ℕ) : sProp 𝕄 :=
  iprop((bigSep Finset.univ fun p : Dev nD × Cell => cellInv ER (sch m) (K p) (cellAt p.1 p.2))
    ∗ bigSep Finset.univ fun p : Dev nD × Cell => reached ER (cellAt p.1 p.2) 0)

instance records_persistent (K : Dev nD × Cell → ℕ) : BI.Persistent (records m K) := by unfold records; infer_instance

/-- and what it holds once the invariants stand. -/
def G' (c : Dev nD) : sProp 𝕄 := iprop(∃ K, records m K ∗ linear (F := F) c)

theorem fund_cells : BI.own (ER (initOf theCells theToks)) ⊢ (|==> bigSep Finset.univ (G m) : sProp 𝕄) := by
  have hX (Φ : GSem nD τ sig → sProp 𝕄) : bigSep theCells Φ = bigSep Finset.univ fun c : Dev nD => bigSep Finset.univ fun x : Cell => Φ (cellAt c x) := by
    unfold theCells; rw [bigSep_map, bigSep_univ_prod]; rfl
  have hT : bigSep theToks (fun x => (dutyTok ER x.1 x.2.1 x.2.2 : sProp 𝕄)) = bigSep Finset.univ fun c : Dev nD => minted (F := F) c := by
    unfold theToks; rw [bigSep_map, bigSep_univ_prod]
    exact bigSep_congr fun c _ => by rw [bigSep_univ_sum, bigSep_univ_sum]; rfl
  iintro HX
  imod (Rounds.fund ER (sch m) theCells theToks) $$ HX with ⟨Hst, Hr, Hat, Htok⟩
  imodintro
  ihave Hst := (Entails.of_eq (hX fun g => roundState ER (sch m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  rw [show G m = fun c => iprop((bigSep Finset.univ fun x : Cell => roundState ER (sch m) (cellAt c x) 0) ∗ (bigSep Finset.univ fun x : Cell => atPos ER (cellAt c x) 0 ∅ 0)
    ∗ (bigSep Finset.univ fun x : Cell => reached ER (cellAt c x) 0) ∗ minted (F := F) c) from rfl, bigSep_sep', bigSep_sep', bigSep_sep']
  isplitl [Hst]; · iexact Hst
  isplitl [Hat]; · iexact Hat
  isplitl [Hr]; · iexact Hr
  iexact Htok

theorem fund_all : (ownU u₀ : sProp 𝕄)
    ⊢ |==> iprop(BI.own ((EP : Emb (UR sig nD τ) 𝕄) (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave HX := (own_pair_emb (embR : Emb (UB × Counters) 𝕄) (initOf theCells theToks) 1) $$ HX
  icases HX with ⟨HX, -⟩
  ihave HX := (show BI.own (((Emb.inl : Emb UB (UB × Counters)).trans (embR : Emb (UB × Counters) 𝕄)) (initOf theCells theToks))
    ⊢ BI.own ((ER : Emb UB 𝕄) (initOf theCells theToks)) from BIBase.Entails.refl) $$ HX
  imod (fund_cells m) $$ HX with HG
  imodintro
  isplitl [HP] <;> iassumption

/-! ## The semaphores -/

/-- The kernel's own semaphores. -/
abbrev Own : Type := (Fin 4 ⊕ Fin 2) ⊕ ((Fin 4 × Fin 7) ⊕ (Dev nD × Fin 4))
def osem : Own → SemLoc sig
  | .inl (.inl b) => .dma (inS b)
  | .inl (.inr p) => .dma (outSem p)
  | .inr x => csem (.inr x)

theorem ownSemFacts : Pipeline.OwnSemFacts cfg0.spec osem := by decide +kernel

theorem unscoped_eq (c : Dev nD) : (unscopedSems0 c : sProp 𝕄) = semVal (barC c) 0 := by
  unfold unscopedSems0; rw [bigSep_eq_bigSepL_of_eq [SemLoc.reg barS] (by decide +kernel) (by decide)]; rfl

theorem sum_sep {A B : Type} [Fintype A] [Fintype B] (Φ : A ⊕ B → sProp 𝕄) :
    bigSep Finset.univ Φ = iprop((bigSep Finset.univ fun a => Φ (.inl a)) ∗ bigSep Finset.univ fun b => Φ (.inr b)) := bigSep_univ_sum Φ

theorem sems_eq (c : Dev nD) : iprop(Pipeline.ownSems0 (Ix := Unit) (Name := ℕ) (U := UU) (Lvl := ℕ) (Val := Elt F) (τ := τ) osem c ∗ unscopedSems0 c)
    ⊣⊢ semsZero (F := F) c := by
  unfold semsZero Pipeline.ownSems0
  rw [unscoped_eq, cells_eq, sum_sep, sum_sep, sum_sep]
  constructor
  · iintro ⟨⟨⟨H1, H2⟩, H3, H4⟩, H5⟩
    isplitl [H1]; · iexact H1
    isplitl [H2]; · iexact H2
    isplitl [H5]; · iexact H5
    isplitl [H3]; · iexact H3
    iexact H4
  · iintro ⟨H1, H2, H5, H3, H4⟩
    isplitr [H5]
    · isplitl [H1 H2]
      · isplitl [H1]; · iexact H1
        iexact H2
      isplitl [H3]; · iexact H3
      iexact H4
    iexact H5

/-! ## The invariants -/

/-- What a device has once its cells' invariants are allocated. -/
def allocd (c : Dev nD) : sProp 𝕄 :=
  iprop((bigSep Finset.univ fun x : Cell => iprop(∃ κ : ℕ, cellInv ER (sch m) κ (cellAt c x)))
    ∗ (bigSep Finset.univ fun x : Cell => reached ER (cellAt c x) 0)
    ∗ ((bigSep Finset.univ fun b : Fin 4 => semVal ((c : Thread nD τ), .dma (inS b)) 0) ∗ (bigSep Finset.univ fun p : Fin 2 => outZero (F := F) c p)
      ∗ (bigSep Finset.univ fun x : Cell => atPos ER (cellAt c x) 0 ∅ 0)) ∗ minted (F := F) c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> allocd m c := by
  unfold G allocd
  iintro ⟨Hos, Hus, Hst, Hat, Hr, Htok⟩
  icombine Hos Hus as Hv
  ihave Hv := (sems_eq (F := F) c).1 $$ Hv
  unfold semsZero
  icases Hv with ⟨Hin, Hout, Hv⟩
  icombine Hv Hst as Hv
  imod (show iprop((bigSep Finset.univ fun x : Cell => semVal (cellAt c x) 0) ∗ bigSep Finset.univ fun x : Cell => roundState ER (sch m) (cellAt c x) 0)
      ⊢ (|={Set.univ}=> bigSep Finset.univ fun x : Cell => iprop(∃ κ : ℕ, cellInv ER (sch m) κ (cellAt c x)) : sProp 𝕄) from by
        rw [← bigSep_sep']
        exact (bigSep_mono fun x _ => (Rounds.body_intro ER (sch m) (cellAt c x)).trans inv_alloc).trans (bigSep_fupd _ _)) $$ Hv with Hinv
  imodintro
  isplitl [Hinv]; · iexact Hinv
  isplitl [Hr]; · iexact Hr
  isplitl [Hin Hout Hat]
  · isplitl [Hin]; · iexact Hin
    isplitl [Hout]; · iexact Hout
    iexact Hat
  iexact Htok

/-- The tokens dealt round. -/
theorem deal : (bigSep Finset.univ fun c : Dev nD => minted (F := F) c) ⊢ bigSep Finset.univ fun c : Dev nD => payToks (F := F) c := by
  unfold minted payToks
  rw [bigSep_sep', bigSep_sep', bigSep_sep', bigSep_sep']
  refine Laws.sep_mono (Entails.of_eq (turn_sep fun c k => (dutyTok ER (barC c) 0 k : sProp 𝕄))) (Laws.sep_mono BIBase.Entails.refl (Entails.of_eq ?_))
  have h (f : Dev nD → Fin 4 × Fin 7 → sProp 𝕄) : (bigSep Finset.univ fun c => bigSep Finset.univ fun j => f c j)
      = bigSep Finset.univ fun c : Dev nD => bigSep Finset.univ fun k : Fin 7 => bigSep Finset.univ fun b : Fin 4 => f c (b, k) :=
    bigSep_congr fun c _ => (bigSep_univ_prod (f c)).trans (bigSep_univ_comm fun b k => f c (b, k))
  rw [h, h, turn_sep]
  simp only [peer_rev]

theorem keep (K : Dev nD × Cell → ℕ) (c : Dev nD) :
    iprop(records m K ∗ (((bigSep Finset.univ fun b : Fin 4 => semVal ((c : Thread nD τ), .dma (inS b)) 0) ∗ (bigSep Finset.univ fun p : Fin 2 => outZero (F := F) c p)
      ∗ (bigSep Finset.univ fun x : Cell => atPos ER (cellAt c x) 0 ∅ 0)) ∗ payToks (F := F) c)) ⊢ G' m c := by
  unfold G' linear
  iintro ⟨HRec, ⟨H1, H2, H3⟩, H4⟩
  iexists K
  isplitl [HRec]; · iexact HRec
  isplitl [H1]; · iexact H1
  isplitl [H2]; · iexact H2
  isplitl [H3]; · iexact H3
  iexact H4

theorem regroup : (bigSep Finset.univ fun c : Dev nD => allocd m c) ⊢ bigSep Finset.univ (G' m) := by
  unfold allocd
  rw [bigSep_sep', bigSep_sep', bigSep_sep', ← bigSep_univ_prod (fun p : Dev nD × Cell => iprop(∃ κ : ℕ, cellInv ER (sch m) κ (cellAt p.1 p.2))),
    ← bigSep_univ_prod (fun p : Dev nD × Cell => (reached ER (cellAt p.1 p.2) 0 : sProp 𝕄))]
  iintro ⟨HI, #HR, Hloc, Htok⟩
  ihave HK := (BI.bigSep_exists_pi Finset.univ (fun (p : Dev nD × Cell) (κ : ℕ) => (cellInv ER (sch m) κ (cellAt p.1 p.2) : sProp 𝕄))) $$ HI
  icases HK with ⟨%K, #HI⟩
  ihave Htk := (deal (F := F)) $$ Htok
  icombine Hloc Htk as Hlin
  iapply (show iprop(records m K ∗ ((bigSep Finset.univ fun c : Dev nD => iprop((bigSep Finset.univ fun b : Fin 4 => semVal ((c : Thread nD τ), .dma (inS b)) 0) ∗ (bigSep Finset.univ fun p : Fin 2 => outZero (F := F) c p)
      ∗ (bigSep Finset.univ fun x : Cell => atPos ER (cellAt c x) 0 ∅ 0))) ∗ bigSep Finset.univ fun c : Dev nD => payToks (F := F) c)) ⊢ bigSep Finset.univ (G' m) from by
    refine (sep_mono_left (BI.bigSep_of_persistent (Finset.univ : Finset (Dev nD)) (records m K))).trans ?_
    rw [← bigSep_sep', ← bigSep_sep']
    exact bigSep_mono fun c _ => keep m K c)
  isplitr
  · unfold records; isplitl; · iexact HI
    iexact HR
  · iexact Hlin

/-- Every device's invariants at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.Run

end
-- ==== Proof.KernelIdeal.Launch.lean ====
/-
# The run

Every weakly fair execution of the eight devices ends, with the result of each device as the body leaves it, its arguments as they were,
and every semaphore at zero.
-/
module

public import proofs.«01_k».proof.Proof.KernelIdeal.Alloc
public import proofs.«01_k».proof.Proof.Gen.KernelIdeal.Launch
public import Idealize.ShloMosaic.Lib.Pipeline.CollectiveSegs
public import proofs.«01_k».proof.Proof.Gen.KernelIdeal.Points

@[expose] public section

noncomputable section

namespace Cert.KernelIdeal.Run

open Cert.KernelIdeal Cert.KernelIdeal.Gen Cert.Chain

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

/-- What the launch leaves device `c`. -/
def start (c : Dev nD) : sProp 𝕄 :=
  iprop((∃ K, ctx m K) ∗ linear (F := F) c ∗ creds (F := F) c ∗ arrays m c (m ((c : Thread nD τ).loc main_v1)))
def Φ₀ (c : Dev nD) : sProp 𝕄 := iprop(start m c ∗ scratch (F := F) c)
def Φ₁ (c : Dev nD) : sProp 𝕄 := iprop(semsZero (F := F) c ∗ arrays m c (outF m c) ∗ scratch (F := F) c)

def dats (_ : Fin 1) (c : Dev nD) : Dat τ (Elt F) Unit ℕ UU ℕ cfg0 c where
  A w := m ((cfg0.win w).arr.view.loc (c : Thread nD τ))
  after w _ := match w with
    | ⟨0, _⟩ => gam m c
    | ⟨1, _⟩ => bet m c
  Φ t := match t with
    | ⟨0, _⟩ => Φ₀ m c
    | ⟨_ + 1, _⟩ => Φ₁ m c
  q _ := fullShare
  owed t := match t with
    | ⟨0, _⟩ => owes₀ c
    | ⟨_ + 1, _⟩ => 0

theorem share_full (c : Dev nD) (w : Fin cfg0.W) : (dats m 0 c).share w = fullShare := by unfold Dat.share; split <;> rfl

theorem owns_stage (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem wins_eq (Φ : Fin cfg0.W → sProp 𝕄) : bigSep Finset.univ Φ = iprop(Φ (0 : Fin 2) ∗ Φ (1 : Fin 2)) := bigSep_W0 Φ

/-! ## The body obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem gam_fetched (c : Dev nD) (d) : (dats m 0 c).before (0 : Fin 2) t0_0 d = gam m c := by
  unfold Dat.before; rw [if_pos (fetch0_0 t0_0)]
  funext i
  refine congrArg (m ((c : Thread nD τ).loc main_arg1)) (funext fun a => Fin.ext ?_)
  match a with
  | ⟨0, _⟩ => show 0 * 1024 + 1 * (i 0).val = (i 0).val; omega
theorem bet_fetched (c : Dev nD) (d) : (dats m 0 c).before (1 : Fin 2) t0_0 d = bet m c := by
  unfold Dat.before; rw [if_pos (fetch0_1 t0_0)]
  funext i
  refine congrArg (m ((c : Thread nD τ).loc main_arg2)) (funext fun a => Fin.ext ?_)
  match a with
  | ⟨0, _⟩ => show 0 * 1024 + 1 * (i 0).val = (i 0).val; omega

def pre (c : Dev nD) : sProp 𝕄 :=
  iprop(Φ₀ m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))
def post (c : Dev nD) : sProp 𝕄 :=
  iprop(Φ₁ m c ∗ (dats m 0 c).owesAt () t0_0.succ ∗ stg c cc0_stg0_0 (gam m c) ∗ stg c cc0_stg1_0 (bet m c))

/-- The own receive cells, which no one sends to, are closed at once. -/
theorem own_close (K : Dev nD × Cell → ℕ) (c : Dev nD) : iprop(ctx m K ∗ ownPos (F := F) c) ⊢ |={Set.univ}=> ownZero (F := F) c := by
  unfold ownPos ownZero
  rw [blocks_eq, blocks_eq]
  refine BIBase.Entails.trans (chain_mono_with (ctx m K) _ (fun b => iprop(|={Set.univ}=> semVal (recvC c c b) 0)) blocks fun b _ => ?_) ?_
  · refine BIBase.Entails.trans (sep_mono_left (ctx_inv m K c (.recv c b))) ?_
    exact Rounds.cell_close ER (sch m) (Set.mem_univ _) (fun h => h) fun r _ => duties_own m c b r
  · rw [← blocks_eq]; rw [← blocks_eq]; exact bigSep_fupd _ _

theorem gPts_eq (c : Dev nD) : gPts m c = iprop(((c : Thread nD τ).loc cc0_stg0_0) ↦{fullShare} gam m c) := rfl
theorem bPts_eq (c : Dev nD) : bPts m c = iprop(((c : Thread nD τ).loc cc0_stg1_0) ↦{fullShare} bet m c) := rfl
theorem owesA_eq (c : Dev nD) (O : CellTallies nD τ sig Unit) : (owesA (F := F) c O) = iprop(∃ W, owes (c : Thread nD τ) O W) := rfl

theorem sound (c : Dev nD) : pre m c ⊢ WP c theBody fun _ => post m c := by
  unfold pre Φ₀ start
  iintro ⟨⟨⟨⟨%K, #HC⟩, Hlin, Hcr, Harr⟩, Hscr⟩, Ho, ⟨%d0, %g0, %hg, HG⟩, ⟨%d1, %g1, %hb, HB⟩⟩
  have hg' := hg.trans (gam_fetched m c d0)
  have hb' := hb.trans (bet_fetched m c d1)
  subst hg' hb'
  ihave H := (start_form m c (m ((c : Thread nD τ).loc main_v1))) $$ [Hlin Hcr Harr Hscr HG HB]
  · isplitl [Hlin]; · iexact Hlin
    isplitl [Hcr]; · iexact Hcr
    isplitl [Harr]; · iexact Harr
    isplitl [Hscr]; · iexact Hscr
    isplitl [HG]; · iapply (Entails.of_eq (gPts_eq m c).symm) $$ HG
    iapply (Entails.of_eq (bPts_eq m c).symm) $$ HB
  icases H with ⟨Hst, Hown⟩
  imod (own_close m K c) $$ [Hown] with Hz
  · isplitr; · iexact HC
    iexact Hown
  unfold Dat.owesAt Pipeline.owesWithin
  icases Ho with ⟨%W, %hW, HO⟩
  ihave HR := (run_body m K c fun _ => post m c) $$ HC
  iapply HR $$ [HO] [Hst]
  · iapply (Entails.of_eq (owesA_eq (F := F) c _).symm)
    iexists W; iexact HO
  · iexact Hst
  iintro HO Hend
  ihave HO := (Entails.of_eq (owesA_eq (F := F) c 0)) $$ HO
  icases HO with ⟨%W', HO⟩
  icombine Hend Hz as Hend
  ihave Hend := (end_form m c) $$ Hend
  icases Hend with ⟨Hs, Ha, Hsc, HG, HB⟩
  unfold post Φ₁ Dat.owesAt Pipeline.owesWithin
  isplitl [Hs Ha Hsc]
  · isplitl [Hs]; · iexact Hs
    isplitl [Ha]; · iexact Ha
    iexact Hsc
  isplitl [HO]
  · iexists W'
    isplitr; · ipureintro; exact fun _ _ => Or.inl trivial
    iexact HO
  isplitl [HG]
  · iexists _; isplitr; · (ipureintro; rfl)
    iapply (Entails.of_eq (gPts_eq m c)) $$ HG
  iexists _; isplitr; · (ipureintro; rfl)
  iapply (Entails.of_eq (bPts_eq m c)) $$ HB

set_option maxRecDepth 65536 in
theorem body_obligation (c : Dev nD) : BodyObligation (dats m 0 c) (defs₀ (F := F)) 𝒱₀ () Set.univ := fun t => by
  rw [fin_N0 t]
  rw [wins_eq, wins_eq]
  simp only [owns_stage]
  exact sound m c

/-! ## The launch -/

theorem start_intro (c : Dev nD) :
    iprop(Pipeline.unscopedRestP Pipeline.Prefetch.none cfg0.spec c (fun b => m ((c : Thread nD τ).loc b)) ∗ levAts L lv
        ∗ Pipeline.launchCred owes₀ c ∗ prngReg c (ρ c) ∗ G' m c)
      ⊢ |={Set.univ}=> iprop(start m c ∗ emp) := by
  rw [Pipeline.unscopedRestP_none, unscopedRest0_eq]
  iintro ⟨Harr, Hlev, Hcr, -, HG⟩
  ihave Hcr := (creds_of (F := F) c) $$ Hcr
  unfold G' records
  icases HG with ⟨%K, ⟨HI, HR⟩, Hlin⟩
  imodintro
  unfold start ctx arrays
  isplitl
  · isplitl [HI HR Hlev]
    · iexists K
      isplitl [HI]; · iexact HI
      isplitl [HR]; · iexact HR
      iexact Hlev
    isplitl [Hlin]; · iexact Hlin
    isplitl [Hcr]; · iexact Hcr
    iexact Harr
  · iempintro

theorem first_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem last_exit (c : Dev nD) :
    (dats m 0 c).Φ (Fin.last cfg0.N) ⊢ iprop((unscopedSems0 c ∗ arrays m c (outF m c)) ∗ Pipeline.ownSems0 osem c ∗ Pipeline.scopedRest cfg0.spec c) := by
  rw [show (dats m 0 c).Φ (Fin.last cfg0.N) = Φ₁ m c from rfl, scopedRest0_eq]
  unfold Φ₁ scratch
  iintro ⟨Hs, Ha, Hr⟩
  ihave Hs := (sems_eq (F := F) c).2 $$ Hs
  icases Hs with ⟨Ho, Hu⟩
  isplitl [Hu Ha]
  · isplitl [Hu]; · iexact Hu
    iexact Ha
  isplitl [Ho]; · iexact Ho
  iexact Hr

theorem L_empty (g : GSem nD τ sig) (h : g.1.2 ≠ .tc) : L g = ∅ := if_neg h

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_oweB c allJobs allPeers _ (by fin_cases w <;> fin_cases s <;> decide +kernel)
    · iintro -
      iapply (mayWait_zero (F := F) c _)
      iempintro

/-- The kernel's results and what it leaves alone. -/
def Ends (r : PUnit × MemSt nD τ sig (Elt F)) : Prop :=
  (∀ c : Dev nD, r.2.mem ((c : Thread nD τ).loc main_v1) = outF m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2))
  ∧ r.2.sem = fun _ => 0

theorem arrays_read (c : Dev nD) (f : S4096x1024.Idx → Elt F .bf16) (s' : Phys nD τ sig (Elt F)) : iprop(arrays m c f ∗ SI s')
    ⊢ (iprop(⌜s'.mem.mem ((c : Thread nD τ).loc main_arg0) = m ((c : Thread nD τ).loc main_arg0) ∧ s'.mem.mem ((c : Thread nD τ).loc main_v1) = f⌝ ∗ SI s') : sProp 𝕄) := by
  unfold arrays
  iintro ⟨⟨H1, H2⟩, HSI⟩
  icombine HSI H1 gives %h1
  icombine HSI H2 gives %h2
  isplitr
  · ipureintro; exact ⟨Buf.eq_of_forall_mem_univ h1, Buf.eq_of_forall_mem_univ h2⟩
  iexact HSI

set_option maxRecDepth 65536 in
theorem run_main : θ_run defs (onTc (τ := τ) (main (F := F))) (s₀ m ρ) (Ends m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl) (hbody := body_obligation m) (hne := block_pos0) (harr := arr_whole0) (hstage := stage_whole0) (hshare := share_full m)
    (hdistinct := winFacts0.arr_inj) (O₀ := owes₀) (howed₀ := fun _ => rfl) (howedN := fun _ => rfl)
    (L := L) (lv := lv) (hL := L_empty) (hwaits := waits m)
    (G := G m) (G' := G' m) (u₀ := u₀) (hu₀ := by
      iintro Hu
      imod (fund_all m) $$ Hu with H
      imodintro
      iexact H) (hglob := glob m)
    (hA := fun _ _ => rfl) (hpf := fun _ k => k.elim0)
    (X := start m) (Y := fun c => iprop(unscopedSems0 c ∗ arrays m c (outF m c))) (Z := fun _ => iprop(emp))
    (hX := start_intro m ρ) (hin := first_intro m) (hout := last_exit m)
    (QY := fun c s => (∀ sm : SemLoc sig, sm.isScoped .tc = false → s.sem ((c.tc : Thread nD τ), sm) = 0)
      ∧ s.mem ((c : Thread nD τ).loc main_arg0) = m ((c : Thread nD τ).loc main_arg0) ∧ s.mem ((c : Thread nD τ).loc main_v1) = outF m c)
    (hY := fun c s' => by
      iintro ⟨⟨Hu, Ha⟩, -, HSI⟩
      ihave H := (arrays_read m c (outF m c) s') $$ [Ha HSI]
      · isplitl [Ha] <;> iassumption
      icases H with ⟨%ha, HSI⟩
      imod (Pipeline.unscopedSems0_read (X := unscopedSems0 c) (c := c) fupd_intro s') $$ [Hu HSI] with ⟨%hs, HSI⟩
      · isplitl [Hu] <;> iassumption
      imodintro
      isplitr; · ipureintro; exact ⟨hs, ha⟩
      iexact HSI)
    (hQ := fun _ h hs => ⟨fun c => ⟨(h c).2.2.2.2, (h c).2.2.2.1,
      ((h c).1 (0 : Fin 2)).trans ((dats m 0 c).arrAt_in (0 : Fin 2) rfl _), ((h c).1 (1 : Fin 2)).trans ((dats m 0 c).arrAt_in (1 : Fin 2) rfl _)⟩,
      sem_eq_zero hs fun c => (h c).2.2.1⟩)

end Cert.KernelIdeal.Run

end
-- ==== Proof.LayerNorm.lean ====
/-
# Layer normalisation of one row, in the extended reals

A row of 8192 numbers is normalised by its mean and its variance. The variance is written in two ways: as the mean of the squared
distances from the mean, and as the mean of the squares less the square of the mean. On a row of real numbers the two agree, and so do
dividing by the root of the variance and multiplying by the reciprocal of that root. The scale `g` and the shift `b` may be any extended
reals.
-/
module

public import Idealize.ShloMosaic.Lib.Pointwise
public import Idealize.ShloMosaic.Lib.IdealHost

@[expose] public section

noncomputable section

namespace Cert.LayerNorm

open Idealize.ShloMosaic

/-- The number of columns, as both programs write it. -/
abbrev len : EReal := Ideal.ofBits .f32 0x46000000#32
/-- The number added to the variance before the root is taken, as both programs write it. -/
abbrev eps : EReal := Ideal.ofBits .f32 0x3727C5AC#32

theorem len_eq : len = ((8192 : ℝ) : EReal) := by
  simp [len, Ideal.ofBits, Ideal.ieee, -EReal.coe_mul]; norm_num

theorem eps_eq : ∃ e : ℝ, 0 < e ∧ eps = (e : EReal) := by
  refine ⟨10995116 * 2 ^ (-40 : ℤ), by positivity, ?_⟩
  simp [eps, Ideal.ofBits, Ideal.ieee, -EReal.coe_mul]; try norm_num

variable {ι : Type} [Fintype ι]

/-- The mean of a row. -/
def mean (y : ι → EReal) : EReal := Ideal.div (∑ k, y k) len

/-- The variance of a row: the mean of the squared distances from the mean. -/
def var (y : ι → EReal) : EReal := Ideal.div (∑ k, (y k - mean y) * (y k - mean y)) len

/-- Entry `v` of the row `y` normalised, scaled by `g` and shifted by `b`. -/
def norm (y : ι → EReal) (v g b : EReal) : EReal :=
  Ideal.div (g * (v - mean y)) (Ideal.sqrt (var y + eps)) + b

/-- The same from the row's sum `s` and its sum of squares `q`. -/
def normSums (s q v g b : EReal) : EReal :=
  (v - Ideal.div s len) * Ideal.rsqrt (Ideal.div q len - Ideal.div s len * Ideal.div s len + eps) * g + b

/-- Among real numbers, the mean square less the squared mean is the mean squared distance from the mean. -/
theorem var_real (hc : Fintype.card ι = 8192) (y : ι → ℝ) :
    (∑ k, y k * y k) * (1 / 8192) - (∑ k, y k) * (1 / 8192) * ((∑ k, y k) * (1 / 8192))
      = (∑ k, (y k - (∑ k, y k) * (1 / 8192)) * (y k - (∑ k, y k) * (1 / 8192))) * (1 / 8192) := by
  generalize hs : (∑ k, y k) * (1 / 8192) = a
  have hs' : ∑ k, y k = 8192 * a := by rw [← hs]; ring
  have h : ∀ k, (y k - a) * (y k - a) = y k * y k - 2 * a * y k + a * a := fun k => by ring
  simp only [h, Finset.sum_add_distrib, Finset.sum_sub_distrib, ← Finset.mul_sum, hs', Finset.sum_const, Finset.card_univ,
    hc, nsmul_eq_mul]
  push_cast
  ring

/-- On a row of real numbers the two ways agree. -/
theorem normSums_eq (hc : Fintype.card ι = 8192) (y : ι → EReal) (hy : ∀ k, ∃ r : ℝ, y k = (r : EReal)) (k : ι) (g b : EReal) :
    normSums (∑ k, y k) (∑ k, y k * y k) (y k) g b = norm y (y k) g b := by
  choose r hr using hy
  obtain rfl : y = fun k => (r k : EReal) := funext hr
  obtain ⟨e, he, hE⟩ := eps_eq
  have hN : ∀ v : ℝ, Ideal.div (v : EReal) len = ((v * (1 / 8192) : ℝ) : EReal) := fun v => by
    rw [len_eq, Ideal.div_coe (by norm_num), ← EReal.coe_mul]
  have hsum : ∀ f : ι → ℝ, (∑ k, (f k : EReal)) = ((∑ k, f k : ℝ) : EReal) := fun f =>
    (map_sum (⟨⟨Real.toEReal, rfl⟩, EReal.coe_add⟩ : ℝ →+ EReal) f Finset.univ).symm
  have hv0 : 0 ≤ (∑ k, (r k - (∑ k, r k) * (1 / 8192)) * (r k - (∑ k, r k) * (1 / 8192))) * (1 / 8192) :=
    mul_nonneg (Finset.sum_nonneg fun k _ => mul_self_nonneg _) (by norm_num)
  unfold normSums norm var mean
  rw [hE]
  generalize len = L at hN ⊢
  simp only [← EReal.coe_mul, hsum, hN, ← EReal.coe_sub, ← EReal.coe_add]
  rw [var_real hc]
  generalize (∑ k, (r k - (∑ k, r k) * (1 / 8192)) * (r k - (∑ k, r k) * (1 / 8192))) * (1 / 8192) = v at hv0 ⊢
  have hp : 0 < v + e := by linarith
  have hq : Real.sqrt (v + e) ≠ 0 := (Real.sqrt_pos.mpr hp).ne'
  rw [Ideal.rsqrt_coe, if_neg hp.not_gt, if_neg hp.ne', Ideal.sqrt_coe, if_neg hp.not_gt, Ideal.div_coe hq, one_div (Real.sqrt (v + e))]
  congr 1
  ac_rfl

end Cert.LayerNorm

end
-- ==== Proof.Reference.lean ====
/-
# The reference

Every execution of the reference ends with each entry of its result normalised over its row, the arguments as they were, and every
semaphore at zero: the program declares none.
-/
module

public import proofs.«01_k».proof.Proof.LayerNorm
public import proofs.«01_k».proof.Proof.Gen.ReferenceIdeal.Run
public import Idealize.ShloMosaic.Lib.Quiescent

@[expose] public section

set_option maxRecDepth 16384

noncomputable section

namespace Cert.ReferenceIdeal.Run

open Cert.ReferenceIdeal Cert.ReferenceIdeal.Gen Cert.LayerNorm
open Idealize.ShloMosaic Idealize.ShloMosaic.TcCoe Idealize.SL.Sem

/-- The whole result of the arguments `x`, `g`, `b`: each entry normalised over its row. -/
def result (x : S4096x8192.Idx → EReal) (g b : S8192.Idx → EReal) : S4096x8192.Idx → EReal := fun j =>
  norm (fun k => x (ix2 (j 0) k)) (x j) (g (ix1 (j 1))) (b (ix1 (j 1)))

/-- The divisor of the variance, the row's length less no degree of freedom, is the row's length. -/
theorem divisor_eq : len - FloatOps.sitofp (F := Ideal) (w := 32) .f32 0#32 = len := by
  show len - ((((0#32 : BitVec 32).toInt : ℤ) : ℝ) : EReal) = len
  simp

/-- It is positive, so the reference keeps the quotient. -/
theorem divisor_pos : 0 < len := by rw [len_eq]; exact_mod_cast (by norm_num : (0 : ℝ) < 8192)

variable (m : (ℓ : Loc nD τ sig) → Buf (Elt Ideal) ℓ) (ρ : Dev nD → PrngReg)

/-- How an execution of the reference ends. -/
theorem run_main : θ_run defs (onTc (τ := τ) (main (F := Ideal))) ⟨m, fun _ => 0, ρ⟩ fun r =>
    (∀ c : Dev nD,
      r.2.mem ((c.tc : Thread nD τ).loc main_v18) = result (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0 := by
  refine (θ_run defs _ _).mono (fun r h => ⟨fun c => ⟨(h c).1.trans (funext fun j => ?_), (h c).2⟩, sem_eq_zero_of_no_sems (by decide) r.2⟩)
    (Value.run m ρ)
  clear h
  generalize m ((c.tc : Thread nD τ).loc main_arg0) = x
  generalize m ((c.tc : Thread nD τ).loc main_arg1) = g
  generalize m ((c.tc : Thread nD τ).loc main_arg2) = b
  pointwise
  rw [divisor_eq, if_pos divisor_pos]
  rfl

end Cert.ReferenceIdeal.Run

end
-- ==== Proof.KernelIdeal.Value.lean ====
/-
# What the kernel leaves in a result's entry

A device sums its columns of each row, and their squares, and stores row `i` of a block of 1024 rows at place `(i / 128, i % 128)` of a
plane. After the exchange every device adds the eight planes and takes row `i`'s number out again by two selectors, one for `i / 128` and
one for `i % 128`. What is left is the normalised entry from the row's sum and its sum of squares over all devices' columns.
-/
module

public import proofs.«01_k».proof.Proof.LayerNorm
public import proofs.«01_k».proof.Proof.KernelIdeal.Sched
public import Idealize.ShloMosaic.Lib.Pipeline.ValueKit.Geometry

@[expose] public section

set_option maxRecDepth 16384

noncomputable section

namespace Cert.KernelIdeal.Run

open Cert.KernelIdeal Cert.KernelIdeal.Gen Cert.LayerNorm
open Idealize.ShloMosaic Idealize.ShloMosaic.TcCoe Idealize.ShloMosaic.Pipeline

/-! ## The selectors -/

/-- The quotient of a word by 128 rounded down, as the kernel computes it. -/
def groupWord (w : BitVec 32) : BitVec 32 :=
  Scalar.select
    (IntOp.andi
      (IntOp.cmpi .ne
        (IntOp.subi (BitVec.setWidth 32 (IntOp.cmpi .sgt w 0#32)) (BitVec.setWidth 32 (IntOp.cmpi .slt w 0#32)))
        (Scalar.subi (Scalar.extui (Scalar.cmpi .sgt 128#32 0#32)) (Scalar.extui (Scalar.cmpi .slt 128#32 0#32))))
      (IntOp.cmpi .ne (IntOp.remsi .vector w 128#32) 0#32))
    (IntOp.subi (IntOp.divsi .vector w 128#32) 1#32) (IntOp.divsi .vector w 128#32)

/-- The divisor of the remainder, as the kernel guards it against zero. -/
abbrev laneDiv : BitVec 32 := Scalar.select (Scalar.cmpi .eq 128#32 0#32) 1#32 128#32

/-- The remainder of a word by 128 rounded down, as the kernel computes it. -/
def laneWord (w : BitVec 32) : BitVec 32 :=
  Scalar.select
    (IntOp.andi
      (IntOp.xori (IntOp.cmpi .slt (IntOp.remsi .vector w laneDiv) 0#32) (Scalar.cmpi .slt laneDiv 0#32))
      (IntOp.cmpi .ne (IntOp.remsi .vector w laneDiv) 0#32))
    (IntOp.addi (IntOp.remsi .vector w laneDiv) laneDiv) (IntOp.remsi .vector w laneDiv)

theorem groupWord_ofNat : ∀ i : Fin 1024, groupWord (BitVec.ofNat 32 i.val) = BitVec.ofNat 32 (i.val / 128) := by decide +kernel
theorem laneWord_ofNat : ∀ i : Fin 1024, laneWord (BitVec.ofNat 32 i.val) = BitVec.ofNat 32 (i.val % 128) := by decide +kernel

/-- The bit of a comparison of two words, as a float. -/
theorem bit_f32 (a b : BitVec 32) :
    FloatOps.sitofp (F := Ideal) .f32 (BitVec.setWidth 32 (IntOp.cmpi .eq a b)) = if a = b then (1 : EReal) else 0 := by
  show ((((BitVec.setWidth 32 (IntOp.cmpi .eq a b)).toInt : ℤ) : ℝ) : EReal) = _
  by_cases h : a = b
  · simp [IntOp.cmpi, h]
  · rw [if_neg h]
    simp [IntOp.cmpi, beq_false_of_ne h]

theorem ofNat_eq_iff {a b : ℕ} (ha : a < 1024) (hb : b < 1024) : BitVec.ofNat 32 a = BitVec.ofNat 32 b ↔ a = b := by
  constructor
  · intro h
    have := congrArg BitVec.toNat h
    simp only [BitVec.toNat_ofNat] at this
    omega
  · exact congrArg _

/-- The selector of a row's group: one at `i / 128`. -/
theorem selO_at (i : Fin 1024) (j : Fin 8) :
    (selO : FVec Ideal S1024x8 .f32) (ix2 i j) = if (⟨i.val / 128, by omega⟩ : Fin 8) = j then (1 : EReal) else 0 := by
  pointwise [selO, k0_pay15, k0_pay13, k0_pay14]
  refine (bit_f32 (groupWord (BitVec.ofNat 32 i.val)) (BitVec.ofNat 32 j.val)).trans ?_
  rw [groupWord_ofNat]
  refine if_congr ((ofNat_eq_iff (by omega) (by omega)).trans ?_) rfl rfl
  rw [Fin.ext_iff]

/-- The selector of a row's place in its group: one at `i % 128`. -/
theorem selL_at (i : Fin 1024) (j : Fin 128) :
    (k0_pay16 : FVec Ideal S1024x128 .f32) (ix2 i j) = if (⟨i.val % 128, by omega⟩ : Fin 128) = j then (1 : EReal) else 0 := by
  pointwise [k0_pay16]
  refine (bit_f32 (laneWord (BitVec.ofNat 32 i.val)) (BitVec.ofNat 32 j.val)).trans ?_
  rw [laneWord_ofNat]
  refine if_congr ((ofNat_eq_iff (by omega) (by omega)).trans ?_) rfl rfl
  rw [Fin.ext_iff]

/-- The two selectors take row `i`'s entry out of a plane. -/
theorem select_plane (i : Fin 1024) (p : Fin 8 → Fin 128 → EReal) :
    ∑ x, (∑ y, (selO : FVec Ideal S1024x8 .f32) (ix2 i y) * p y x) * (k0_pay16 : FVec Ideal S1024x128 .f32) (ix2 i x)
      = p ⟨i.val / 128, by omega⟩ ⟨i.val % 128, by omega⟩ := by
  simp only [selO_at, selL_at, ite_mul, one_mul, zero_mul, mul_ite, mul_one, mul_zero, Finset.sum_ite_eq, Finset.mem_univ, if_true]

/-! ## One block of rows -/

/-- Row `i`'s number in plane `p` of the gathered planes, added over the devices. -/
def rowTotal (S : Vec Ideal S8x1x2x8x128 .f32) (p : Fin 2) (i : Fin 1024) : EReal :=
  ∑ s : Fin 8, S (ix5 s 0 p ⟨i.val / 128, by omega⟩ ⟨i.val % 128, by omega⟩)

theorem mean_at (S : Vec Ideal S8x1x2x8x128 .f32) (i : Fin 1024) (z : Fin 1) :
    k0_pay33 selO k0_pay16 S (ix2 i z) = Ideal.div (rowTotal S 0 i) len := by
  pointwise [k0_pay33, k0_pay32]
  exact congrArg (Ideal.div · len) (select_plane i fun y x => ∑ s : Fin 8, S (ix5 s 0 0 y x))

theorem inv_at (S : Vec Ideal S8x1x2x8x128 .f32) (i : Fin 1024) (z : Fin 1) :
    k0_pay34 selO k0_pay16 S (ix2 i z)
      = Ideal.rsqrt (Ideal.div (rowTotal S 1 i) len - Ideal.div (rowTotal S 0 i) len * Ideal.div (rowTotal S 0 i) len + eps) := by
  pointwise [k0_pay34, k0_pay32]
  rw [mean_at]
  exact congrArg (fun v => Ideal.rsqrt (Ideal.div v len - Ideal.div (rowTotal S 0 i) len * Ideal.div (rowTotal S 0 i) len + eps))
    (select_plane i fun y x => ∑ s : Fin 8, S (ix5 s 0 1 y x))

/-- The normalised block at an index. -/
theorem outBlk_at (S : Vec Ideal S8x1x2x8x128 .f32) (g b : Vec Ideal S1024 .f32) (x : Vec Ideal S1024x1024 .f32) (z : Fin 1)
    (i j : Fin 1024) :
    outBlk S g b x (ix3 z i j) = normSums (rowTotal S 0 i) (rowTotal S 1 i) (x (ix2 i j)) (g (ix1 j)) (b (ix1 j)) := by
  unfold outBlk
  pointwise [k0_pay35, k0_pay17, k0_pay18]
  rw [mean_at, inv_at]
  rfl

/-! ## The whole result -/

variable (m : (ℓ : Loc nD τ sig) → Buf (Elt Ideal) ℓ)

/-- Row `r` of device `s`'s columns, at column `l`. -/
def xAt (s : Dev nD) (r : Fin 4096) (l : Fin 1024) : EReal := m ((s : Thread nD τ).loc main_arg0) (ix2 r l)

theorem xrow_at (s : Dev nD) (b : Fin 4) (i l : Fin 1024) (r : Fin 4096) (hr : r.val = 1024 * b.val + i.val) :
    xrow m s b (ix2 i l) = xAt m s r l := by
  refine congrArg (m ((s : Thread nD τ).loc main_arg0)) (funext fun a => Fin.ext ?_)
  have hv : (((rowR b).emb (ix2 i l)) a).val = rowOff b a + ((ix2 i l : S1024x1024.Idx) a).val := ValueKit.rect_emb_unit_val _ _ _ _ _
  refine Eq.trans hv ?_
  match a with
  | ⟨0, _⟩ => exact hr.symm
  | ⟨1, _⟩ => exact Nat.zero_add _

/-- The stored plane of sums, at an entry. -/
theorem sums_at (x : Vec Ideal S1024x1024 .f32) (j : S1x1x1x8x128.Idx) (a : Fin 8) (b : Fin 128) (i : Fin 1024) (h3 : j 3 = a)
    (h4 : j 4 = b) (h : a.val * 128 + b.val = i.val) :
    k0_pay5 x j = ∑ l : Fin 1024, x (ix2 i l) := by
  pointwise [k0_pay5]
  exact Finset.sum_congr rfl fun l _ => congrArg (fun r => x (ix2 r l)) (Fin.ext (by rw [h3, h4]; exact h))

/-- The stored plane of sums of squares, at an entry. -/
theorem squares_at (x : Vec Ideal S1024x1024 .f32) (j : S1x1x1x8x128.Idx) (a : Fin 8) (b : Fin 128) (i : Fin 1024) (h3 : j 3 = a)
    (h4 : j 4 = b) (h : a.val * 128 + b.val = i.val) :
    k0_pay6 x j = ∑ l : Fin 1024, x (ix2 i l) * x (ix2 i l) := by
  pointwise [k0_pay6]
  exact Finset.sum_congr rfl fun l _ => congrArg (fun r => x (ix2 r l) * x (ix2 r l)) (Fin.ext (by rw [h3, h4]; exact h))

/-- Where an entry of the gathered planes is in the exchange buffer. -/
theorem colR_at (b : Fin 4) (s : Fin 8) (p : Fin 2) (y : Fin 8) (x : Fin 128) : (colR b).emb (ix5 s 0 p y x) = ix5 s b p y x := by
  funext a
  apply Fin.ext
  have hv : (((colR b).emb (ix5 s 0 p y x)) a).val = colOff b a + ((ix5 s 0 p y x : S8x1x2x8x128.Idx) a).val :=
    ValueKit.rect_emb_unit_val _ _ _ _ _
  refine hv.trans ?_
  match a with
  | ⟨0, _⟩ => exact Nat.zero_add _
  | ⟨1, _⟩ => rfl
  | ⟨2, _⟩ => exact Nat.zero_add _
  | ⟨3, _⟩ => exact Nat.zero_add _
  | ⟨4, _⟩ => exact Nat.zero_add _

theorem place (i : Fin 1024) : i.val / 128 * 128 + i.val % 128 = i.val := Nat.div_add_mod' _ _

/-- Device `s`'s sum of row `i` of block `b`, among the gathered planes. -/
theorem gath_sums (b : Fin 4) (i : Fin 1024) (s : Fin 8) (y : Fin 8) (x : Fin 128) (h : y.val * 128 + x.val = i.val)
    (r : Fin 4096) (hr : r.val = 1024 * b.val + i.val) :
    gath m b (ix5 s 0 0 y x) = ∑ l : Fin 1024, xAt m s r l := by
  have h1 : gath m b (ix5 s 0 0 y x) = commAll m (ix5 s b 0 y x) := congrArg (commAll m) (colR_at b s 0 y x)
  have h2 : commAll m (ix5 s b 0 y x) = k0_pay5 (xrow m s b) (inPlane (ix5 s b 0 y x)) := if_pos rfl
  rw [h1, h2, sums_at _ _ y x i rfl rfl h]
  exact Finset.sum_congr rfl fun l _ => xrow_at m s b i l r hr

/-- Device `s`'s sum of squares of row `i` of block `b`, among the gathered planes. -/
theorem gath_squares (b : Fin 4) (i : Fin 1024) (s : Fin 8) (y : Fin 8) (x : Fin 128) (h : y.val * 128 + x.val = i.val)
    (r : Fin 4096) (hr : r.val = 1024 * b.val + i.val) :
    gath m b (ix5 s 0 1 y x) = ∑ l : Fin 1024, xAt m s r l * xAt m s r l := by
  have h1 : gath m b (ix5 s 0 1 y x) = commAll m (ix5 s b 1 y x) := congrArg (commAll m) (colR_at b s 1 y x)
  have h2 : commAll m (ix5 s b 1 y x) = k0_pay6 (xrow m s b) (inPlane (ix5 s b 1 y x)) := if_neg Nat.one_ne_zero
  rw [h1, h2, squares_at _ _ y x i rfl rfl h]
  exact Finset.sum_congr rfl fun l _ => by rw [xrow_at m s b i l r hr]

/-- The result of device `c` at row `r` and column `l`. -/
theorem outF_entry (c : Dev nD) (r : Fin 4096) (l : Fin 1024) :
    outF m c (ix2 r l) = normSums (∑ s : Dev nD, ∑ k : Fin 1024, xAt m s r k) (∑ s : Dev nD, ∑ k : Fin 1024, xAt m s r k * xAt m s r k)
      (xAt m c r l) (gam m c (ix1 l)) (bet m c (ix1 l)) := by
  have hr : r.val < 4096 := r.isLt
  have hi : r.val = 1024 * (r.val / 1024) + r.val % 1024 := (Nat.div_add_mod _ _).symm
  generalize hb : (⟨r.val / 1024, by omega⟩ : Fin 4) = b
  generalize hk : (⟨r.val % 1024, Nat.mod_lt _ (by decide)⟩ : Fin 1024) = i
  have hri : r.val = 1024 * b.val + i.val := by rw [← hb, ← hk]; exact hi
  have hS : rowTotal (gath m b) 0 i = ∑ s : Dev nD, ∑ k : Fin 1024, xAt m s r k :=
    by unfold rowTotal; exact Finset.sum_congr rfl fun s _ => gath_sums m b i s ⟨i.val / 128, by omega⟩ ⟨i.val % 128, by omega⟩ (place i) r hri
  have hQ : rowTotal (gath m b) 1 i = ∑ s : Dev nD, ∑ k : Fin 1024, xAt m s r k * xAt m s r k :=
    by unfold rowTotal; exact Finset.sum_congr rfl fun s _ => gath_squares m b i s ⟨i.val / 128, by omega⟩ ⟨i.val % 128, by omega⟩ (place i) r hri
  have hx : xrow m c b (ix2 i l) = xAt m c r l := xrow_at m c b i l r hri
  rw [← hS, ← hQ, ← hx, ← outBlk_at (gath m b) (gam m c) (bet m c) (xrow m c b) 0 i l]
  subst hb hk
  unfold outF
  refine congrArg (outBlk (gath m _) (gam m c) (bet m c) (xrow m c _)) (funext fun a => ?_)
  match a with
  | ⟨0, _⟩ => rfl
  | ⟨1, _⟩ => rfl
  | ⟨2, _⟩ => rfl

end Cert.KernelIdeal.Run

end
-- ==== Proof.Equation.lean ====
/-
# The kernel's result is the device's block of the reference's

When every device holds its block of the columns, the sum over the devices of the sums over their columns is the sum over all columns, so
the kernel and the reference normalise the same row, and on a finite row they agree.
-/
module

public import proofs.«01_k».proof.Defs
public import proofs.«01_k».proof.Proof.Reference
public import proofs.«01_k».proof.Proof.KernelIdeal.Value

@[expose] public section

set_option maxRecDepth 16384

noncomputable section

namespace Cert.Equation

open Cert.LayerNorm Cert.KernelIdeal.Run
open Idealize.ShloMosaic Idealize.ShloMosaic.TcCoe

/-! ## The precondition -/

/-- A number whose absolute value is below infinity is real. -/
theorem real_of_abs_lt (v : EReal) (h : max v (-v) < ⊤) : ∃ r : ℝ, v = (r : EReal) := by
  induction v with
  | bot => exact absurd h (by simp)
  | top => exact absurd h (by simp)
  | coe r => exact ⟨r, rfl⟩

/-- The pattern the precondition compares with is infinity. -/
theorem inf_eq : Ideal.ofBits .f32 0x7F800000#32 = ⊤ := by simp [Ideal.ofBits, Ideal.ieee]

/-- A comparison whose bit is one holds. -/
theorem of_bit {p : Prop} [Decidable p] (h : BitVec.ofBool (decide p) = 1#1) : p := by
  by_contra hp
  rw [decide_eq_false hp] at h
  exact absurd h (by decide)

/-- Under the precondition every entry of every device's first argument is real. -/
theorem real_of_pre [Cert.Pre_finite_x_KernelIdeal.Facts]
    (m : (ℓ : Loc Cert.KernelIdeal.nD Cert.KernelIdeal.τ Cert.KernelIdeal.sig) → Buf (Elt Ideal) ℓ)
    (h : Cert.Pre_KernelIdeal_finite_x_KernelIdeal m) (c : Dev Cert.KernelIdeal.nD) (r : Fin 4096) (l : Fin 1024) :
    ∃ v : ℝ, xAt m c r l = (v : EReal) := by
  refine real_of_abs_lt _ ?_
  have h1 := congrFun (h c) (ix2 r l)
  unfold xAt
  generalize m ((c : Thread Cert.KernelIdeal.nD Cert.KernelIdeal.τ).loc Cert.KernelIdeal.main_arg0) = x at h1 ⊢
  pointwise [Cert.Pre_finite_x_KernelIdeal.fn] at h1
  rw [inf_eq] at h1
  exact of_bit h1

/-! ## The equation -/

variable (m : (ℓ : Loc Cert.KernelIdeal.nD Cert.KernelIdeal.τ Cert.KernelIdeal.sig) → Buf (Elt Ideal) ℓ)
variable (X : Cert.ReferenceIdeal.S4096x8192.Idx → EReal) (G B : Cert.ReferenceIdeal.S8192.Idx → EReal)

/-- Column `l` of device `c`, among all columns. -/
def col (c : Fin 8) (l : Fin 1024) : Fin 8192 := ⟨c.val * 1024 + l.val, by omega⟩

/-- Eight blocks of 1024 columns tile the array, -/
theorem tiles2 : Layout.Tiles ⟨2, ![4096, 1024]⟩ ⟨2, ![4096, 8192]⟩ 1 8 := by decide
/-- and eight blocks of 1024 parameters tile the row of them. -/
theorem tiles1 : Layout.Tiles ⟨1, ![1024]⟩ ⟨1, ![8192]⟩ 0 8 := by decide

/-- An entry of the block of device `c` of an array cut along its columns. -/
theorem block2_at (v : Cert.ReferenceIdeal.S4096x8192.Idx → EReal) (c : Fin 8) (r : Fin 4096) (l : Fin 1024)
    (h : Layout.Tiles ⟨2, ![4096, 1024]⟩ ⟨2, ![4096, 8192]⟩ 1 8) :
    Layout.block ⟨2, ![4096, 1024]⟩ ⟨2, ![4096, 8192]⟩ 1 8 c v h (ix2 r l) = v (ix2 r (col c l)) := by
  refine congrArg v (funext fun a => Fin.ext ?_)
  match a with
  | ⟨0, _⟩ => rfl
  | ⟨1, _⟩ => rfl

/-- An entry of the block of device `c` of a row of parameters. -/
theorem block1_at (v : Cert.ReferenceIdeal.S8192.Idx → EReal) (c : Fin 8) (l : Fin 1024)
    (h : Layout.Tiles ⟨1, ![1024]⟩ ⟨1, ![8192]⟩ 0 8) :
    Layout.block ⟨1, ![1024]⟩ ⟨1, ![8192]⟩ 0 8 c v h (ix1 l) = v (ix1 (col c l)) := by
  refine congrArg v (funext fun a => Fin.ext ?_)
  match a with
  | ⟨0, _⟩ => rfl

/-- A sum over all columns is the sum over the devices of the sums over their columns. -/
theorem sum_cols (f : Fin 8192 → EReal) : ∑ k, f k = ∑ s : Fin 8, ∑ l : Fin 1024, f (col s l) :=
  Fin.sum_univ_tiles 8 1024 rfl f

variable (hX : ∀ c : Fin 8, m (((c : Dev Cert.KernelIdeal.nD) : Thread Cert.KernelIdeal.nD Cert.KernelIdeal.τ).loc Cert.KernelIdeal.main_arg0)
    = Layout.block ⟨2, ![4096, 1024]⟩ ⟨2, ![4096, 8192]⟩ 1 8 c X tiles2)
variable (hG : ∀ c : Fin 8, m (((c : Dev Cert.KernelIdeal.nD) : Thread Cert.KernelIdeal.nD Cert.KernelIdeal.τ).loc Cert.KernelIdeal.main_arg1)
    = Layout.block ⟨1, ![1024]⟩ ⟨1, ![8192]⟩ 0 8 c G tiles1)
variable (hB : ∀ c : Fin 8, m (((c : Dev Cert.KernelIdeal.nD) : Thread Cert.KernelIdeal.nD Cert.KernelIdeal.τ).loc Cert.KernelIdeal.main_arg2)
    = Layout.block ⟨1, ![1024]⟩ ⟨1, ![8192]⟩ 0 8 c B tiles1)
variable (hfin : ∀ (c : Fin 8) (r : Fin 4096) (l : Fin 1024), ∃ v : ℝ, xAt m c r l = (v : EReal))

include hX in
theorem xAt_eq (c : Fin 8) (r : Fin 4096) (l : Fin 1024) : xAt m c r l = X (ix2 r (col c l)) :=
  (congrFun (hX c) (ix2 r l)).trans (block2_at X c r l _)

/-- Every column is some device's. -/
theorem col_surj (k : Fin 8192) : ∃ (c : Fin 8) (l : Fin 1024), col c l = k :=
  ⟨⟨k.val / 1024, by omega⟩, ⟨k.val % 1024, by omega⟩, Fin.ext (Nat.div_add_mod' _ _)⟩

include hX hG hB hfin in
/-- The result of device `c` is its block of the reference's result. -/
theorem outF_eq (c : Fin 8) :
    outF m c = Layout.block ⟨2, ![4096, 1024]⟩ ⟨2, ![4096, 8192]⟩ 1 8 c (Cert.ReferenceIdeal.Run.result X G B) tiles2 := by
  funext j
  obtain ⟨r, l, rfl⟩ : ∃ (r : Fin 4096) (l : Fin 1024), j = ix2 r l := ⟨j 0, j 1, funext fun a => by
    match a with
    | ⟨0, _⟩ => rfl
    | ⟨1, _⟩ => rfl⟩
  have hreal : ∀ k : Fin 8192, ∃ v : ℝ, X (ix2 r k) = (v : EReal) := fun k => by
    obtain ⟨s, l', rfl⟩ := col_surj k
    exact (xAt_eq m X hX s r l') ▸ hfin s r l'
  have hg : gam m c (ix1 l) = G (ix1 (col c l)) := (congrFun (hG c) (ix1 l)).trans (block1_at G c l _)
  have hb : bet m c (ix1 l) = B (ix1 (col c l)) := (congrFun (hB c) (ix1 l)).trans (block1_at B c l _)
  refine (outF_entry m c r l).trans (Eq.trans ?_ (block2_at _ c r l _).symm)
  have hS : (∑ s : Dev Cert.KernelIdeal.nD, ∑ k : Fin 1024, xAt m s r k) = ∑ k : Fin 8192, X (ix2 r k) :=
    (Finset.sum_congr rfl fun s _ => Finset.sum_congr rfl fun k _ => xAt_eq m X hX s r k).trans (sum_cols fun k => X (ix2 r k)).symm
  have hQ : (∑ s : Dev Cert.KernelIdeal.nD, ∑ k : Fin 1024, xAt m s r k * xAt m s r k) = ∑ k : Fin 8192, X (ix2 r k) * X (ix2 r k) :=
    (Finset.sum_congr rfl fun s _ => Finset.sum_congr rfl fun k _ => by rw [xAt_eq m X hX s r k]).trans
      (sum_cols fun k => X (ix2 r k) * X (ix2 r k)).symm
  rw [hS, hQ, hg, hb, xAt_eq m X hX c r l]
  exact normSums_eq (by simp) (fun k => X (ix2 r k)) hreal (col c l) _ _

end Cert.Equation

end
-- ==== Proof.lean ====
/-
# The certificate

The five claims, assembled from the runs of the kernel at both float instances, the run of the reference, and the equation of their
results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Reference
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem

instance pre_kernel : Cert.Pre_finite_x_KernelIdeal.Facts := ⟨by decide⟩
instance pre_reference : Cert.Pre_finite_x_ReferenceIdeal.Facts := ⟨by decide⟩

/-- The kernel at bit patterns ends, with its arguments unchanged and every semaphore at zero. -/
theorem frame_kernel : Cert.quiescent_Kernel := fun m g _ =>
  (θ_run Cert.Kernel.defs _ _).mono (fun _ h => ⟨fun c => (h.1 c).2, h.2⟩) (Cert.Kernel.Run.run_main (F := Bits) m g)

/-- So does the kernel at the extended reals. -/
theorem frame_kernel_ideal : Cert.quiescent_KernelIdeal := fun m g _ =>
  (θ_run Cert.KernelIdeal.defs _ _).mono (fun _ h => ⟨fun c => (h.1 c).2, h.2⟩) (Cert.KernelIdeal.Run.run_main (F := Ideal) m g)

/-- So does the reference. -/
theorem frame_reference : Cert.quiescent_ReferenceIdeal := fun m g _ =>
  (θ_run Cert.ReferenceIdeal.defs _ _).mono (fun _ h => ⟨fun c => (h.1 c).2, h.2⟩) (Cert.ReferenceIdeal.Run.run_main m g)

/-- From memories that agree, the first argument finite, each device's result is its block of the reference's. -/
theorem value : Cert.algebraic_KernelIdeal_ReferenceIdeal_pre_finite_x_KernelIdeal := fun m g m' g' hpre hm =>
  ⟨_,
    (θ_run Cert.KernelIdeal.defs _ _).mono
      (fun _ h c => ⟨(h.1 c).1.trans (Cert.Equation.outF_eq m _ _ _ (fun c => (hm c).1) (fun c => (hm c).2.1) (fun c => (hm c).2.2)
        (Cert.Equation.real_of_pre m hpre) c), (h.1 c).2⟩)
      (Cert.KernelIdeal.Run.run_main (F := Ideal) m g),
    (θ_run Cert.ReferenceIdeal.defs _ _).mono (fun _ h => h.1 0) (Cert.ReferenceIdeal.Run.run_main m' g')⟩

theorem claim : Cert.Claim :=
  ⟨Cert.Kernel.Gen.facts, Cert.KernelIdeal.Gen.facts, Cert.ReferenceIdeal.Gen.facts, pre_kernel, pre_reference,
    frame_kernel, frame_kernel_ideal, fun m g _ => frame_kernel_ideal m g trivial, frame_reference,
    fun m g _ => frame_reference m g trivial, trivial, value⟩

end Cert.Proof

end
